-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ScKernel (m : (ℓ : Loc Cert.ScKernel.nD Cert.ScKernel.τ Cert.ScKernel.sig) → Buf (Elt Bits) ℓ) : Prop :=
  True

def Pre_ScKernelIdeal (m : (ℓ : Loc Cert.ScKernelIdeal.nD Cert.ScKernelIdeal.τ Cert.ScKernelIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ScKernel [hScKernel : Cert.ScKernel.Facts] : Prop :=
  ∀ (m : (ℓ : Loc Cert.ScKernel.nD Cert.ScKernel.τ Cert.ScKernel.sig) → Buf (Elt Bits) ℓ) (g : Dev Cert.ScKernel.nD → PrngReg), Pre_ScKernel m →
    θ_run (Cert.ScKernel.defs (F := Bits)) (Cert.ScKernel.threads (F := Bits)) ⟨m, fun _ => 0, g⟩ (fun r => (∀ c : Dev Cert.ScKernel.nD,
      r.2.mem ((c.tc : Thread Cert.ScKernel.nD Cert.ScKernel.τ).loc Cert.ScKernel.main_arg0) = m ((c.tc : Thread Cert.ScKernel.nD Cert.ScKernel.τ).loc Cert.ScKernel.main_arg0))
      ∧ r.2.sem = fun _ => 0)

def quiescent_ScKernelIdeal [hScKernelIdeal : Cert.ScKernelIdeal.Facts] : Prop :=
  ∀ (m : (ℓ : Loc Cert.ScKernelIdeal.nD Cert.ScKernelIdeal.τ Cert.ScKernelIdeal.sig) → Buf (Elt Ideal) ℓ) (g : Dev Cert.ScKernelIdeal.nD → PrngReg), Pre_ScKernelIdeal m →
    θ_run (Cert.ScKernelIdeal.defs (F := Ideal)) (Cert.ScKernelIdeal.threads (F := Ideal)) ⟨m, fun _ => 0, g⟩ (fun r => (∀ c : Dev Cert.ScKernelIdeal.nD,
      r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_ScKernel_ScKernelIdeal : Prop :=
  True

def algebraic_ScKernelIdeal_ReferenceIdeal [hScKernelIdeal : Cert.ScKernelIdeal.Facts] [hReferenceIdeal : Cert.ReferenceIdeal.Facts] : Prop :=
  ∀ (m : (ℓ : Loc Cert.ScKernelIdeal.nD Cert.ScKernelIdeal.τ Cert.ScKernelIdeal.sig) → Buf (Elt Ideal) ℓ) (g : Dev Cert.ScKernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ScKernelIdeal m →
    (∀ c : Dev Cert.ScKernelIdeal.nD,
      m' ((c.tc : Thread Cert.ReferenceIdeal.nD Cert.ReferenceIdeal.τ).loc Cert.ReferenceIdeal.main_arg0) = m ((c.tc : Thread Cert.ScKernelIdeal.nD Cert.ScKernelIdeal.τ).loc Cert.ScKernelIdeal.main_arg0)) →
    ∃ (v0 : (c : Dev Cert.ScKernelIdeal.nD) → Buf (Elt Ideal) ((c.tc : Thread Cert.ScKernelIdeal.nD Cert.ScKernelIdeal.τ).loc Cert.ScKernelIdeal.main_v0)),
      θ_run (Cert.ScKernelIdeal.defs (F := Ideal)) (Cert.ScKernelIdeal.threads (F := Ideal)) ⟨m, fun _ => 0, g⟩ (fun r => ∀ c : Dev Cert.ScKernelIdeal.nD,
          r.2.mem ((c.tc : Thread Cert.ScKernelIdeal.nD Cert.ScKernelIdeal.τ).loc Cert.ScKernelIdeal.main_v0) = v0 c
          ∧ r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hScKernel : Cert.ScKernel.Facts) (hScKernelIdeal : Cert.ScKernelIdeal.Facts),
    quiescent_Kernel (hKernel := hKernel)
    ∧ quiescent_KernelIdeal (hKernelIdeal := hKernelIdeal)
    ∧ quiescent_ReferenceIdeal (hReferenceIdeal := hReferenceIdeal)
    ∧ quiescent_ScKernel (hScKernel := hScKernel)
    ∧ quiescent_ScKernelIdeal (hScKernelIdeal := hScKernelIdeal)
    ∧ preserves_Kernel_KernelIdeal
    ∧ algebraic_KernelIdeal_ReferenceIdeal (hKernelIdeal := hKernelIdeal) (hReferenceIdeal := hReferenceIdeal)
    ∧ preserves_ScKernel_ScKernelIdeal
    ∧ algebraic_ScKernelIdeal_ReferenceIdeal (hScKernelIdeal := hScKernelIdeal) (hReferenceIdeal := hReferenceIdeal)
-- ==== Kernel.lean ====
abbrev S128x32768 : Shape := ⟨2, ![128, 32768]⟩
abbrev S128x128 : Shape := ⟨2, ![128, 128]⟩
abbrev S128x2048 : Shape := ⟨2, ![128, 2048]⟩
abbrev S128x1 : Shape := ⟨2, ![128, 1]⟩

abbrev nBuf : Space → Nat
  | .hbm => 6
  | .vmem => 6
  | .smem => 0
  | _ => 0

abbrev bufTy : (tb : Table) → Fin (tcTables nBuf tb) → BufTy
  | .hbm, ⟨0, _⟩ => ⟨S128x32768, .f32⟩
  | .hbm, ⟨1, _⟩ => ⟨S128x128, .i32⟩
  | .hbm, ⟨2, _⟩ => ⟨S128x128, .i32⟩
  | .hbm, ⟨3, _⟩ => ⟨S128x128, .i1⟩
  | .hbm, ⟨4, _⟩ => ⟨S128x128, .f32⟩
  | .hbm, ⟨5, _⟩ => ⟨S128x32768, .f32⟩
  | .local _ .vmem, ⟨0, _⟩ => ⟨S128x2048, .f32⟩
  | .local _ .vmem, ⟨1, _⟩ => ⟨S128x2048, .f32⟩
  | .local _ .vmem, ⟨2, _⟩ => ⟨S128x128, .f32⟩
  | .local _ .vmem, ⟨3, _⟩ => ⟨S128x2048, .f32⟩
  | .local _ .vmem, ⟨4, _⟩ => ⟨S128x2048, .f32⟩
  | .local _ .vmem, ⟨5, _⟩ => ⟨S128x128, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x32768 : Shape := ⟨2, ![128, 32768]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S_, .f32⟩
  | .hbm, ⟨2, _⟩ => ⟨S_, .f32⟩
  | .hbm, ⟨3, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== ScKernel.lean ====
abbrev S128x32768 : Shape := ⟨2, ![128, 32768]⟩
abbrev S2x32768 : Shape := ⟨2, ![2, 32768]⟩
abbrev S_ : Shape := ⟨0, ![]⟩
abbrev S16 : Shape := ⟨1, ![16]⟩
abbrev S1x32768 : Shape := ⟨2, ![1, 32768]⟩
abbrev S32768 : Shape := ⟨1, ![32768]⟩
abbrev S1x16 : Shape := ⟨2, ![1, 16]⟩
abbrev S1 : Shape := ⟨1, ![1]⟩

abbrev nBuf : Table → Nat
  | .hbm => 2
  | .local .scVector .vmem => 1
  | _ => 0

abbrev bufTy : (tb : Table) → Fin (nBuf tb) → BufTy
  | .hbm, ⟨0, _⟩ => ⟨S128x32768, .f32⟩
  | .hbm, ⟨1, _⟩ => ⟨S128x32768, .f32⟩
  | .local .scVector .vmem, ⟨0, _⟩ => ⟨S2x32768, .f32⟩
  | _, _ => ⟨S128x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1 : BitVec 32 := 4#32
  let v36 : BitVec 32 := Scalar.muli v1 c4_i32_1
  let v37 : BitVec 32 := Scalar.addi v36 c0_i32_2
  let c0_i32_5 : BitVec 32 := 0#32
  ![v37.toNat, 0]
@[reducible] def k0_t1_loop : Scf.Loop 32 :=
  let c0_i32_21 : BitVec 32 := 0#32
  let c256_i32 : BitVec 32 := 256#32
  let v65 : BitVec 32 := Scalar.addi c0_i32_21 c256_i32
  let c1_i32_22 : BitVec 32 := 1#32
  ⟨c0_i32_21, v65, c1_i32_22⟩
def k0_off2 (k0_t1 : Fin k0_t1_loop.trips) (c0_i32_116 : BitVec 32) : Fin 2 → Nat :=
  let c0_i32_117 : BitVec 32 := 0#32
  let v201 : Index := Scalar.indexCast c0_i32_117
  let c0_i32_21 : BitVec 32 := 0#32
  let c1_i32_22 : BitVec 32 := 1#32
  let arg9 : BitVec 32 := Scf.iv c0_i32_21 c1_i32_22 k0_t1
  let c128_i32 : BitVec 32 := 128#32
  let v192 : BitVec 32 := Scalar.muli arg9 c128_i32
  let v193 : BitVec 32 := Scalar.addi v192 c0_i32_116
  let v202 : Index := Scalar.indexCast v193
  ![0, v202.toNat]
@[reducible] def k0_t2_loop : Scf.Loop 32 :=
  let c0_i32_49 : BitVec 32 := 0#32
  let c256_i32_50 : BitVec 32 := 256#32
  let v104 : BitVec 32 := Scalar.addi c0_i32_49 c256_i32_50
  let c1_i32_51 : BitVec 32 := 1#32
  ⟨c0_i32_49, v104, c1_i32_51⟩
def k0_off3 (k0_t2 : Fin k0_t2_loop.trips) (c0_i32_116 : BitVec 32) : Fin 2 → Nat :=
  let c1_i32_117 : BitVec 32 := 1#32
  let v201 : Index := Scalar.indexCast c1_i32_117
  let c0_i32_49 : BitVec 32 := 0#32
  let c1_i32_51 : BitVec 32 := 1#32
  let arg9 : BitVec 32 := Scf.iv c0_i32_49 c1_i32_51 k0_t2
  let c128_i32 : BitVec 32 := 128#32
  let v192 : BitVec 32 := Scalar.muli arg9 c128_i32
  let v193 : BitVec 32 := Scalar.addi v192 c0_i32_116
  let v202 : Index := Scalar.indexCast v193
  ![1, v202.toNat]
@[reducible] def k0_t3_loop : Scf.Loop 32 :=
  let c0_i32_78 : BitVec 32 := 0#32
  let c256_i32_79 : BitVec 32 := 256#32
  let v143 : BitVec 32 := Scalar.addi c0_i32_78 c256_i32_79
  let c1_i32_80 : BitVec 32 := 1#32
  ⟨c0_i32_78, v143, c1_i32_80⟩
def k0_off4 (k0_t3 : Fin k0_t3_loop.trips) (c0_i32_116 : BitVec 32) : Fin 2 → Nat :=
  let c0_i32_117 : BitVec 32 := 0#32
  let v201 : Index := Scalar.indexCast c0_i32_117
  let c0_i32_78 : BitVec 32 := 0#32
  let c1_i32_80 : BitVec 32 := 1#32
  let arg9 : BitVec 32 := Scf.iv c0_i32_78 c1_i32_80 k0_t3
  let c128_i32 : BitVec 32 := 128#32
  let v192 : BitVec 32 := Scalar.muli arg9 c128_i32
  let v193 : BitVec 32 := Scalar.addi v192 c0_i32_116
  let v202 : Index := Scalar.indexCast v193
  ![0, v202.toNat]
@[reducible] def k0_t4_loop : Scf.Loop 32 :=
  let c0_i32_95 : BitVec 32 := 0#32
  let c256_i32_96 : BitVec 32 := 256#32
  let v164 : BitVec 32 := Scalar.addi c0_i32_95 c256_i32_96
  let c1_i32_97 : BitVec 32 := 1#32
  ⟨c0_i32_95, v164, c1_i32_97⟩
def k0_off5 (k0_t4 : Fin k0_t4_loop.trips) (c0_i32_116 : BitVec 32) : Fin 2 → Nat :=
  let c1_i32_117 : BitVec 32 := 1#32
  let v201 : Index := Scalar.indexCast c1_i32_117
  let c0_i32_95 : BitVec 32 := 0#32
  let c1_i32_97 : BitVec 32 := 1#32
  let arg9 : BitVec 32 := Scf.iv c0_i32_95 c1_i32_97 k0_t4
  let c128_i32 : BitVec 32 := 128#32
  let v192 : BitVec 32 := Scalar.muli arg9 c128_i32
  let v193 : BitVec 32 := Scalar.addi v192 c0_i32_116
  let v202 : Index := Scalar.indexCast v193
  ![1, v202.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Prefix.lean ====
/-
  PREFIX SUMS OF A ROW. `rowSum x r n` is the sum of the first `n` elements of row `r` of a 128 × 32768 array of extended
  reals; the window sum that the reference's cumulative sum prints as is that sum at every index (`reduceWindowAdd_eq`).
-/
module

public import Idealize.ShloMosaic.Lib.ValueIdx
public import Idealize.ShloMosaic.Lib.IdealHost
public import Idealize.ShloMosaic.Lib.ShapeFacts
public import Mathlib.Algebra.BigOperators.Fin

@[expose] public section

noncomputable section

open scoped BigOperators

namespace Cert.Prefix

open Idealize.ShloMosaic Idealize.ShloMosaic.ValueIdx

/-- The shape of the array whose rows are summed. -/
abbrev Arr : Shape := ⟨2, ![128, 32768]⟩

/-- Element `k` of row `r`, and zero past the row's end. -/
def elt (x : Arr.Idx → EReal) (r : Fin 128) (k : ℕ) : EReal := if h : k < 32768 then x (ix2 r ⟨k, h⟩) else 0

/-- The sum of the first `n` elements of row `r`. -/
def rowSum (x : Arr.Idx → EReal) (r : Fin 128) (n : ℕ) : EReal := ∑ k ∈ Finset.range n, elt x r k

theorem rowSum_zero (x : Arr.Idx → EReal) (r : Fin 128) : rowSum x r 0 = 0 := Finset.sum_range_zero _

/-- The sum of the first `n + k` elements is that of the first `n` and that of the `k` elements after them. -/
theorem rowSum_add (x : Arr.Idx → EReal) (r : Fin 128) (n k : ℕ) :
    rowSum x r (n + k) = rowSum x r n + ∑ i ∈ Finset.range k, elt x r (n + i) := Finset.sum_range_add _ _ _

/-- A left fold that adds a term per element ends at its start plus the sum of the terms. -/
theorem foldl_add {β : Type} (g : β → EReal) (l : List β) (v : EReal) :
    l.foldl (fun a b => a + g b) v = v + (l.map g).sum := by
  induction l generalizing v with
  | nil => simp
  | cons b l ih => rw [List.foldl_cons, ih, List.map_cons, List.sum_cons, add_assoc]

/-- A window of `M + 1` places ending at `j`, of which those before the row's start count nothing, sums the elements up to `j`. -/
theorem sum_padded (f : ℕ → EReal) (M j : ℕ) (hj : j ≤ M) :
    (∑ n ∈ Finset.range (M + 1), if M ≤ j + n then f (j + n - M) else 0) = ∑ i ∈ Finset.range (j + 1), f i := by
  rw [show M + 1 = (M - j) + (j + 1) by omega, Finset.sum_range_add, Finset.sum_eq_zero, zero_add]
  · refine Finset.sum_congr rfl fun i _ => ?_
    rw [if_pos (by omega), show j + (M - j + i) - M = i by omega]
  · intro n hn
    rw [Finset.mem_range] at hn
    rw [if_neg (by omega)]

/-- A one-row window has as many places as columns. -/
theorem numel_win : (⟨2, ![1, 32768]⟩ : Shape).numel = 32768 := (Shape.numel_rank2 _).trans (Nat.one_mul _)

/-- Place `n` of a one-row window is its column `n`. -/
theorem symm_win (n : Fin (⟨2, ![1, 32768]⟩ : Shape).numel) :
    (⟨2, ![1, 32768]⟩ : Shape).rowMajor.symm n = ix2 (0 : Fin 1) (n.cast numel_win) :=
  ((⟨2, ![1, 32768]⟩ : Shape).rowMajor.symm_apply_eq).2 (Fin.ext (by
    rw [Shape.rowMajor_val_two]
    show n.val = 0 * 32768 + n.val
    omega))

/-- A sum over the list of the numbers below `N`, in any writing of `N`, is the sum over the range. -/
theorem sum_finRange (g : ℕ → EReal) {N M : ℕ} (h : N = M) :
    ((List.finRange N).map fun n => g n.val).sum = ∑ k ∈ Finset.range M, g k := by
  subst h
  rw [← Fin.sum_univ_def, Fin.sum_univ_eq_sum_range g]

/-- The reference's window sum, started from zero, at row `r` and column `c`: the sum of the row's first `c + 1` elements. -/
theorem reduceWindowAdd_eq {u : Shape} (x : FVec Ideal Arr .f32) (init : u.Idx → Ideal .f32)
    (h : Arr.ReduceWindows ![1, 32768] ![1, 1] ![0, 32767] ![0, 0] Arr) (hu : 0 < u.numel)
    (hinit : ∀ i, init i = (0 : EReal)) (j : Arr.Idx) :
    Host.reduceWindowAdd (F := Ideal) ![1, 32768] ![1, 1] ![0, 32767] ![0, 0] x init h hu j
      = rowSum x (j 0) ((j 1).val + 1) := by
  have hc : (j 1).val < 32768 := (j 1).isLt
  unfold Host.reduceWindowAdd
  rw [Ideal.hostReduceWindowAdd_def]
  unfold Ideal.hostReduceWindowAdd Host.reduceWindow
  dsimp only
  rw [foldl_add, hinit, zero_add]
  refine Eq.trans (congrArg List.sum (List.map_congr_left
    (g := fun n => (fun k : ℕ => if 32767 ≤ (j 1).val + k then elt x (j 0) ((j 1).val + k - 32767) else 0) n.val) fun n _ => ?_)) ?_
  · have hw0 : ((⟨2, ![1, 32768]⟩ : Shape).rowMajor.symm n 0).val = 0 := by rw [symm_win]; rfl
    have hw1 : ((⟨2, ![1, 32768]⟩ : Shape).rowMajor.symm n 1).val = n.val := by rw [symm_win]; rfl
    have hn : n.val < 32768 := (n.cast numel_win).isLt
    have hr : (j 0).val < 128 := (j 0).isLt
    dsimp only
    split
    · next hin =>
      have h1 := (hin 1).1
      change 32767 ≤ (j 1).val * 1 + ((⟨2, ![1, 32768]⟩ : Shape).rowMajor.symm n 1).val at h1
      rw [hw1] at h1
      rw [if_pos (by omega)]
      unfold elt
      rw [dif_pos (by omega)]
      refine congrArg x (funext fun a => Fin.ext ?_)
      match a with
      | ⟨0, _⟩ =>
        show (j 0).val * 1 + ((⟨2, ![1, 32768]⟩ : Shape).rowMajor.symm n 0).val - 0 = (j 0).val
        rw [hw0]; omega
      | ⟨1, _⟩ =>
        show (j 1).val * 1 + ((⟨2, ![1, 32768]⟩ : Shape).rowMajor.symm n 1).val - 32767 = (j 1).val + n.val - 32767
        rw [hw1]; omega
    · next hin =>
      rw [if_neg fun hle => hin fun a => by
        match a with
        | ⟨0, _⟩ =>
          show 0 ≤ (j 0).val * 1 + ((⟨2, ![1, 32768]⟩ : Shape).rowMajor.symm n 0).val
            ∧ (j 0).val * 1 + ((⟨2, ![1, 32768]⟩ : Shape).rowMajor.symm n 0).val - 0 < 128
          rw [hw0]; omega
        | ⟨1, _⟩ =>
          show 32767 ≤ (j 1).val * 1 + ((⟨2, ![1, 32768]⟩ : Shape).rowMajor.symm n 1).val
            ∧ (j 1).val * 1 + ((⟨2, ![1, 32768]⟩ : Shape).rowMajor.symm n 1).val - 32767 < 32768
          rw [hw1]; omega]
  · exact (sum_finRange (fun k : ℕ => if 32767 ≤ (j 1).val + k then elt x (j 0) ((j 1).val + k - 32767) else 0)
      (numel_win : _ = 32767 + 1)).trans (sum_padded (elt x (j 0)) 32767 (j 1).val (by omega))

end Cert.Prefix

end
-- ==== Proof.TcValue.lean ====
/-
  THE TENSORCORE KERNEL'S VALUE. Grid point `n` sums columns `2048 n … 2048 n + 2047` of every row, in sixteen blocks of 128
  columns: a block's prefix sums are its product with the upper triangular matrix of ones, plus the last column of the block
  before. Over the extended reals the block `n` of the result and the carried scratch are the rows' prefix sums
  (`outsAt_eq`, by induction on the point), so the result array is (`result_eq`).
-/
module

public import proofs.«01_k».proof.Proof.Prefix
public import proofs.«01_k».proof.Proof.Gen.KernelIdeal.Value
public import Idealize.ShloMosaic.Lib.MatmulPlain
public import Idealize.ShloMosaic.PureOps.Ideal.Laws
public import Idealize.ShloMosaic.Lib.WordCmp

@[expose] public section

noncomputable section

open scoped BigOperators

namespace Cert.KernelIdeal.Value

open Cert.KernelIdeal Cert.KernelIdeal.Gen Cert.Prefix Idealize.ShloMosaic Idealize.ShloMosaic.TcCoe Idealize.ShloMosaic.ValueIdx

theorem hz : (![0, 0] : Fin 2 → Nat) = fun _ => 0 := funext fun a => by fin_cases a <;> rfl

/-! ## One grid point's blocks, as the kernel writes them -/

/-- A 128 × 128 block's last column, repeated in every column. -/
def lastCol (v : FVec Ideal S128x128 .f32) : FVec Ideal S128x128 .f32 :=
  broadcastTo S128x128 (shapeCast S128x1 (extractStridedSlice S128x1 ![0, 127] v slices_S128x128_o0_127_S128x1)
    shapeCasts_S128x1_S128x1) broadcasts_S128x1_S128x128

/-- Columns `128 k … 128 k + 127` lie in the block of 2048. -/
theorem slices_at (k : ℕ) (hk : k < 16) : S128x2048.Slices ![0, 128 * k] S128x128 := by
  refine ⟨rfl, fun a => ?_⟩
  match a with
  | ⟨0, _⟩ => show 0 + 128 ≤ 128; omega
  | ⟨1, _⟩ => show 128 * k + 128 ≤ 2048; omega

/-- A block's product with the triangular matrix. -/
def tri (l u : FVec Ideal S128x128 .f32) : FVec Ideal S128x128 .f32 :=
  matmul dot_S128x128_S128x128_S128x128_1_0_0_1_n_n none l (shapeCast S128x128 u shapeCasts_S128x128_S128x128)
    (constant S128x128 .f32 0x00000000#32)

/-- Block `k`'s prefix sums over the columns `x`, the triangular matrix `u` and the carried sums `cv`. -/
def blk (x : Vec Ideal S128x2048 .f32) (u cv : Vec Ideal S128x128 .f32) : (k : ℕ) → k < 16 → FVec Ideal S128x128 .f32
  | 0, _ => addf (tri (extractStridedSlice S128x128 ![0, 0] x (slices_at 0 (by decide))) u) cv
  | k + 1, hk => addf (tri (extractStridedSlice S128x128 ![0, 128 * (k + 1)] x (slices_at (k + 1) hk)) u)
      (lastCol (blk x u cv k (Nat.lt_of_succ_lt hk)))

/-- The sixteen blocks side by side. -/
def point (x : Vec Ideal S128x2048 .f32) (u cv : Vec Ideal S128x128 .f32) : FVec Ideal S128x2048 .f32 :=
  concatenate S128x2048 1 (List.ofFn fun k : Fin 16 => (⟨S128x128, blk x u cv k.val k.isLt⟩ : (s : Shape) × (s.Idx → EReal)))
    concatenates_S128x128_S128x128_S128x128_S128x128_S128x128_S128x128_S128x128_S128x128_S128x128_S128x128_S128x128_S128x128_S128x128_S128x128_S128x128_S128x128_S128x2048_d1

/-- CASE B's result block (every point but the first): the sixteen blocks over the carried sums. -/
theorem out_B (c : Dev nD) (i : grid0.Coords) (a1 : Memref sig .tc .vmem S128x2048 .f32) (h1 : a1.IsWhole)
    (a2 : Memref sig .tc .vmem S128x128 .f32) (h2 : a2.IsWhole) (a3 : Memref sig .tc .vmem S128x2048 .f32) (h3 : a3.IsWhole)
    (a4 : Memref sig .tc .vmem S128x128 .f32) (h4 : a4.IsWhole) (hc : ¬cond0_0 i)
    (x : Vec Ideal S128x2048 .f32) (u xs : Vec Ideal S128x128 .f32) :
    out0_B_2 c i a1 h1 a2 h2 a3 h3 a4 h4 hc x u xs = point x u xs := by
  unfold out0_B_2
  rw [View.read_writes_eq_canon _ _ _ (cover0_B_2 c i a1 h1 a2 h2 a3 h3 a4 h4 hc x u xs)]
  unfold kernelRun0_B
  dsimp only
  sl_unfold_words
  rw [View.canon_unit_zero hz]
  simp only [View.readAt_eq_ld, h1.read_unread, h2.read_unread, h4.read_unread, View.ld_unit_zero (S := S128x2048) hz,
    View.ld_unit_zero (S := S128x128) hz]
  rfl

/-- … and its carried sums: the last block's last column. -/
theorem sout_B (c : Dev nD) (i : grid0.Coords) (a1 : Memref sig .tc .vmem S128x2048 .f32) (h1 : a1.IsWhole)
    (a2 : Memref sig .tc .vmem S128x128 .f32) (h2 : a2.IsWhole) (a3 : Memref sig .tc .vmem S128x2048 .f32) (h3 : a3.IsWhole)
    (a4 : Memref sig .tc .vmem S128x128 .f32) (h4 : a4.IsWhole) (hc : ¬cond0_0 i)
    (x : Vec Ideal S128x2048 .f32) (u xs : Vec Ideal S128x128 .f32) :
    sout0_B_0 c i a1 h1 a2 h2 a3 h3 a4 h4 hc x u xs
      = shapeCast S128x128 (lastCol (blk x u xs 15 (by decide))) shapeCasts_S128x128_S128x128 := by
  unfold sout0_B_0
  rw [View.read_writes_eq_canon _ _ _ (scover0_B_0 c i a1 h1 a2 h2 a3 h3 a4 h4 hc x u xs)]
  unfold kernelRun0_B
  dsimp only
  sl_unfold_words
  rw [View.canon_unit_zero hz]
  simp only [View.readAt_eq_ld, h1.read_unread, h2.read_unread, h4.read_unread, View.ld_unit_zero (S := S128x2048) hz,
    View.ld_unit_zero (S := S128x128) hz]
  rfl

/-- CASE A's result block (the first point): the sixteen blocks over the zeros the reset stores. -/
theorem out_A (c : Dev nD) (i : grid0.Coords) (a1 : Memref sig .tc .vmem S128x2048 .f32) (h1 : a1.IsWhole)
    (a2 : Memref sig .tc .vmem S128x128 .f32) (h2 : a2.IsWhole) (a3 : Memref sig .tc .vmem S128x2048 .f32) (h3 : a3.IsWhole)
    (a4 : Memref sig .tc .vmem S128x128 .f32) (h4 : a4.IsWhole) (hc : cond0_0 i)
    (x : Vec Ideal S128x2048 .f32) (u : Vec Ideal S128x128 .f32) :
    out0_A_2 c i a1 h1 a2 h2 a3 h3 a4 h4 hc x u = point x u (k0_pay4 (F := Ideal)) := by
  unfold out0_A_2
  rw [View.read_writes_eq_canon _ _ _ (cover0_A_2 c i a1 h1 a2 h2 a3 h3 a4 h4 hc x u)]
  unfold kernelRun0_A
  dsimp only
  sl_unfold_words
  rw [View.canon_unit_zero hz]
  simp only [View.readAt_eq_ld, h1.read_unread, h2.read_unread, View.ld_unit_zero (S := S128x2048) hz,
    View.ld_unit_zero (S := S128x128) hz, View.readCov_unit_zero (S := S128x128) _ hz]
  rfl

/-- … and its carried sums. -/
theorem sout_A (c : Dev nD) (i : grid0.Coords) (a1 : Memref sig .tc .vmem S128x2048 .f32) (h1 : a1.IsWhole)
    (a2 : Memref sig .tc .vmem S128x128 .f32) (h2 : a2.IsWhole) (a3 : Memref sig .tc .vmem S128x2048 .f32) (h3 : a3.IsWhole)
    (a4 : Memref sig .tc .vmem S128x128 .f32) (h4 : a4.IsWhole) (hc : cond0_0 i)
    (x : Vec Ideal S128x2048 .f32) (u : Vec Ideal S128x128 .f32) :
    sout0_A_0 c i a1 h1 a2 h2 a3 h3 a4 h4 hc x u
      = shapeCast S128x128 (lastCol (blk x u (k0_pay4 (F := Ideal)) 15 (by decide))) shapeCasts_S128x128_S128x128 := by
  unfold sout0_A_0
  rw [View.read_writes_eq_canon _ _ _ (scover0_A_0 c i a1 h1 a2 h2 a3 h3 a4 h4 hc x u)]
  unfold kernelRun0_A
  dsimp only
  sl_unfold_words
  rw [View.canon_cons_unit_zero (S := S128x128) hz]
  simp only [View.readAt_eq_ld, h1.read_unread, h2.read_unread, View.ld_unit_zero (S := S128x2048) hz,
    View.ld_unit_zero (S := S128x128) hz, View.readCov_unit_zero (S := S128x128) _ hz]
  rfl

/-! ## The blocks as prefix sums -/

/-- The upper triangular matrix of ones, diagonal included. -/
def IsTri (u : Vec Ideal S128x128 .f32) : Prop := ∀ k c : Fin 128, u (ix2 k c) = if k.val ≤ c.val then (1 : EReal) else 0

/-- A product with the triangular matrix sums a row's elements up to the column. -/
theorem tri_apply (l u : FVec Ideal S128x128 .f32) (hu : IsTri u) (g : ℕ → EReal) (r c : Fin 128)
    (hg : ∀ k : Fin 128, l (ix2 r k) = g k.val) : tri l u (ix2 r c) = ∑ k ∈ Finset.range (c.val + 1), g k := by
  have hc := c.isLt
  unfold tri
  rw [shapeCast_self]
  refine (Ideal.matmul_plain_apply (M := 128) (K := 128) (N := 128) none l u _ r c).trans ?_
  rw [constant_apply, Ideal.ofBits_zero_f32, zero_add]
  rw [Finset.sum_congr rfl (g := fun k : Fin 128 => (fun n : ℕ => if n ≤ c.val then g n else 0) k.val) fun k _ => by
    show _ = if k.val ≤ c.val then g k.val else 0
    rw [hg, hu k c]
    split
    · rw [mul_one]
    · rw [mul_zero]]
  rw [Fin.sum_univ_eq_sum_range (fun n : ℕ => if n ≤ c.val then g n else 0) 128, ← Finset.sum_filter]
  refine Finset.sum_congr (Finset.ext fun n => ?_) fun _ _ => rfl
  rw [Finset.mem_filter, Finset.mem_range, Finset.mem_range]
  omega

/-- The repeated last column at an index. -/
theorem lastCol_apply (v : FVec Ideal S128x128 .f32) (r c : Fin 128) : lastCol v (ix2 r c) = v (ix2 r (127 : Fin 128)) := by
  unfold lastCol
  rw [shapeCast_self, broadcastTo_apply _ _ (ix2 r c) (ix2 r (0 : Fin 1)) (fun a => by
    match a with
    | ⟨0, _⟩ => rfl
    | ⟨1, _⟩ => rfl)]
  exact extractStridedSlice_apply _ _ _ _ _ fun a => by
    match a with
    | ⟨0, _⟩ => exact (Nat.zero_add _).symm
    | ⟨1, _⟩ => rfl

section
variable (X : Arr.Idx → EReal) (b : ℕ) (x : Vec Ideal S128x2048 .f32) (u cv : Vec Ideal S128x128 .f32) (hu : IsTri u)
  (hx : ∀ (r : Fin 128) (k : Fin 2048), x (ix2 r k) = elt X r (b + k.val))
  (hcv : ∀ r c : Fin 128, cv (ix2 r c) = rowSum X r b)
include hu hx hcv

/-- Where the columns are columns `b …` of `X` and the carried sums those of the columns before, block `k` holds prefix sums of `X`. -/
theorem blk_apply (k : ℕ) (hk : k < 16) (r c : Fin 128) : blk x u cv k hk (ix2 r c) = rowSum X r (b + (128 * k + (c.val + 1))) := by
  have hl : ∀ (k : ℕ) (hk : k < 16) (q : Fin 128),
      extractStridedSlice S128x128 ![0, 128 * k] x (slices_at k hk) (ix2 r q) = elt X r (b + 128 * k + q.val) := fun k hk q => by
    have hq := q.isLt
    rw [extractStridedSlice_apply _ _ _ _ (ix2 r (⟨128 * k + q.val, by omega⟩ : Fin 2048)) (fun a => by
      match a with
      | ⟨0, _⟩ => exact (Nat.zero_add _).symm
      | ⟨1, _⟩ => rfl), hx, Nat.add_assoc]
  induction k generalizing c with
  | zero =>
    unfold blk
    rw [addf_apply, tri_apply _ u hu (fun i => elt X r (b + i)) r c (fun q => hl 0 hk q), hcv, Nat.mul_zero, Nat.zero_add,
      rowSum_add, add_comm]
  | succ k ih =>
    unfold blk
    rw [addf_apply, tri_apply _ u hu (fun i => elt X r (b + 128 * (k + 1) + i)) r c (fun q => hl (k + 1) hk q), lastCol_apply, ih,
      show b + (128 * k + ((127 : Fin 128).val + 1)) = b + 128 * (k + 1) from by show b + (128 * k + (127 + 1)) = _; omega,
      ← Nat.add_assoc b, rowSum_add _ _ (b + 128 * (k + 1)), add_comm]

/-- The point's block of the result holds the prefix sums of its columns … -/
theorem point_apply (r : Fin 128) (c : Fin 2048) : point x u cv (ix2 r c) = rowSum X r (b + (c.val + 1)) := by
  have hc := c.isLt
  unfold point
  refine (concatenate_ofFn_apply (t := S128x2048) (s₁ := S128x128) 1 (fun k : Fin 16 => blk x u cv k.val k.isLt) _ rfl 128 rfl (ix2 r c) ⟨c.val / 128, by omega⟩ rfl
    (ix2 r (⟨c.val % 128, Nat.mod_lt _ (by decide)⟩ : Fin 128)) rfl (fun a ha => by
      match a with
      | ⟨0, _⟩ => rfl
      | ⟨1, _⟩ => exact absurd rfl ha)).trans ?_
  rw [blk_apply X b x u cv hu hx hcv]
  congr 2
  show 128 * (c.val / 128) + (c.val % 128 + 1) = c.val + 1
  omega

/-- … and its carried sums are those of all its columns. -/
theorem carry_apply (r c : Fin 128) :
    shapeCast S128x128 (lastCol (blk x u cv 15 (by decide))) shapeCasts_S128x128_S128x128 (ix2 r c) = rowSum X r (b + 2048) := by
  rw [shapeCast_self, lastCol_apply, blk_apply X b x u cv hu hx hcv]
  rfl

end

/-! ## The input blocks -/

variable (m : (ℓ : Loc nD τ sig) → Buf (Elt Ideal) ℓ)

/-- The argument array of a device. -/
abbrev X0 (c : Dev nD) : Arr.Idx → EReal := m ((c : Thread nD τ).loc main_arg0)

/-- Point `t` reads columns `2048 t …` of the argument. -/
theorem iblk0_apply (c : Dev nD) (t : Fin cfg0.N) (r : Fin 128) (k : Fin 2048) :
    (iblk m c 0 t : Vec Ideal S128x2048 .f32) (ix2 r k) = elt (X0 m c) r (2048 * t.val + k.val) := by
  have hk := k.isLt
  have ht : t.val < 16 := lt_of_lt_of_eq t.isLt N_0
  have hi : win0_0.index t 0 = 0 ∧ win0_0.index t 1 = t.val :=
    (by decide +kernel : ∀ t : Fin grid0.N, win0_0.index t 0 = 0 ∧ win0_0.index t 1 = t.val) t
  unfold iblk
  rw [View.read_apply]
  show V m c main_arg0 _ = _
  rw [V_main_arg0]
  unfold elt
  rw [dif_pos (by omega)]
  show m (c.tc.loc main_arg0) _ = m (c.tc.loc main_arg0) _
  congr 1
  funext a
  apply Fin.ext
  match a with
  | ⟨0, _⟩ => show win0_0.index t 0 * 128 + 1 * r.val = r.val; rw [hi.1]; omega
  | ⟨1, _⟩ => show win0_0.index t 1 * 2048 + 1 * k.val = 2048 * t.val + k.val; rw [hi.2]; omega

/-- Every point reads the triangular matrix the host made. -/
theorem iblk1_tri (c : Dev nD) (t : Fin cfg0.N) : IsTri (iblk m c 1 t : Vec Ideal S128x128 .f32) := by
  intro k q
  have hi : win0_1.index t 0 = 0 ∧ win0_1.index t 1 = 0 :=
    (by decide +kernel : ∀ t : Fin grid0.N, win0_1.index t 0 = 0 ∧ win0_1.index t 1 = 0) t
  unfold iblk
  rw [View.read_apply]
  have he : ((cfg0.win 1).blk t).view.emb (ix2 k q) = ix2 k q := by
    funext a
    apply Fin.ext
    match a with
    | ⟨0, _⟩ => show win0_1.index t 0 * 128 + 1 * k.val = k.val; rw [hi.1]; omega
    | ⟨1, _⟩ => show win0_1.index t 1 * 128 + 1 * q.val = q.val; rw [hi.2]; omega
  rw [he]
  show V m c main_v3 (ix2 k q) = _
  have hV : V m c main_v3 = (uitofp .f32 (cmpi .sle (iotaInDim S128x128 32 0) (iotaInDim S128x128 32 1)) : FVec Ideal S128x128 .f32) := by
    unfold V
    after_results
  rw [hV]
  show ((BitVec.toNat (IntOp.cmpi .sle (BitVec.ofNat 32 k.val) (BitVec.ofNat 32 q.val)) : ℝ) : EReal) = _
  have hk := k.isLt
  have hq := q.isLt
  have hc : IntOp.cmpi .sle (BitVec.ofNat 32 k.val) (BitVec.ofNat 32 q.val) = if k.val ≤ q.val then 1#1 else 0#1 := by
    rw [WordCmp.cmpi_sle_ofNat (by omega) (by omega)]
    by_cases h : k.val ≤ q.val <;> simp [h]
  rw [hc]
  split <;> simp

/-! ## The fold over the points -/

/-- What the reset stores is zero. -/
theorem reset_apply (r c : Fin 128) : (k0_pay4 (F := Ideal)) (ix2 r c) = (0 : EReal) := by
  unfold k0_pay4
  rw [shapeCast_self]
  exact Ideal.ofBits_zero_f32

/-- After point `n` the result's block holds the prefix sums of its columns and the carried scratch those of the columns so far. -/
theorem outsAt_eq (c : Dev nD) : ∀ (n : ℕ) (h : n < cfg0.N),
    (∀ (r : Fin 128) (k : Fin 2048), (outsAt0 m c n h).1 (ix2 r k) = rowSum (X0 m c) r (2048 * n + (k.val + 1)))
      ∧ ∀ r k : Fin 128, (outsAt0 m c n h).2 (ix2 r k) = rowSum (X0 m c) r (2048 * (n + 1))
  | 0, h => by
    rw [outsAt0_A m c ⟨0, h⟩ rfl, out_A, sout_A]
    have hcv : ∀ r k : Fin 128, (k0_pay4 (F := Ideal)) (ix2 r k) = rowSum (X0 m c) r (2048 * 0) := fun r k => by
      rw [reset_apply, Nat.mul_zero, rowSum_zero]
    exact ⟨point_apply _ _ _ _ _ (iblk1_tri m c _) (iblk0_apply m c ⟨0, h⟩) hcv,
      carry_apply _ _ _ _ _ (iblk1_tri m c _) (iblk0_apply m c ⟨0, h⟩) hcv⟩
  | n + 1, h => by
    have hN : cfg0.N = 16 := N_0
    have hB : ¬(⟨n + 1, h⟩ : Fin cfg0.N).val % 16 = 0 := by dsimp only; omega
    rw [outsAt0_B m c ⟨n + 1, h⟩ hB, out_B, sout_B]
    have hcv : ∀ r k : Fin 128, (outsAt0 m c n (Nat.lt_of_succ_lt h)).2 (ix2 r k) = rowSum (X0 m c) r (2048 * (n + 1)) :=
      (outsAt_eq c n _).2
    exact ⟨point_apply _ _ _ _ _ (iblk1_tri m c _) (iblk0_apply m c ⟨n + 1, h⟩) hcv,
      carry_apply _ _ _ _ _ (iblk1_tri m c _) (iblk0_apply m c ⟨n + 1, h⟩) hcv⟩

/-- The result array: at every index the sum of the row's elements up to the column. -/
theorem result_eq (c : Dev nD) (i : Arr.Idx) : G2 m c i = rowSum (X0 m c) (i 0) ((i 1).val + 1) := by
  have hN : cfg0.N = 16 := N_0
  have h0 : (i 0).val < 128 := (i 0).isLt
  have h1 : (i 1).val < 32768 := (i 1).isLt
  have hp : pt2Of i = (i 1).val / 2048 := by
    show 16 * ((i 0).val / 128 - 0) + 1 * ((i 1).val / 2048 - 0) = _
    omega
  have hlt : pt2Of i < cfg0.N := by rw [hp, hN]; omega
  unfold G2
  rw [dif_pos hlt, ← outsAt0_sweep m c (pt2Of i) hlt]
  have hl : loc2Of i = ix2 (i 0) (⟨(i 1).val % 2048, Nat.mod_lt _ (by decide)⟩ : Fin 2048) := by
    funext a
    apply Fin.ext
    match a with
    | ⟨0, _⟩ => exact Nat.mod_eq_of_lt h0
    | ⟨1, _⟩ => rfl
  rw [hl]
  refine ((outsAt_eq m c _ hlt).1 (i 0) ⟨(i 1).val % 2048, Nat.mod_lt _ (by decide)⟩).trans ?_
  rw [hp]
  congr 1
  show 2048 * ((i 1).val / 2048) + ((i 1).val % 2048 + 1) = _
  omega

end Cert.KernelIdeal.Value

end
-- ==== Proof.ScBody.lean ====
/-
  THE SPARSECORE KERNEL'S GROUP. One trip of each of the kernel's four counted loops takes 128 columns of a scratch row as
  eight vectors of sixteen lanes: `group` states that trip once, on offsets and a carry left open, over the pure functions
  `scanned` (what is stored over each vector) and `carryOut` (the carry passed on); `body1_eq` … `body4_eq` say that each
  loop's printed region is that group at its own offsets.
-/
module

public import proofs.«01_k».proof.Proof.Gen.ScKernel.Skeleton

@[expose] public section

noncomputable section

namespace Cert.ScKernel.Run

open Idealize.ShloMosaic Idealize.SL.Sem
open Cert.ScKernel.Gen

variable {F : FTy → Type} [FloatOps F]

/-! ## The pure part of a group: eight vectors of sixteen lanes -/

/-- The zero vector. -/
def zeros : FVec F S16 .f32 := broadcast S16 (Scalar.ofBits .f32 0x00000000#32)

/-- Lane `k` of a vector, in every lane. -/
def lane (v : FVec F S16 .f32) (k : ℕ) (h : S16.Slices ![k] S1) : FVec F S16 .f32 :=
  broadcast S16 (extractAt ![0] (extractStridedSlice S1 ![k] v h) inpos_S1_p0)

/-- The lanes from `k` on. -/
def mask (k : BitVec 32) : IVec S16 1 := cmpi .sge (iota .scVector S16 32 [0] iota_S16_d0_w32_scVector) (broadcast S16 k)

/-- The running sum of a vector's sixteen lanes: lane `k` added at the lanes from `k` on, for `k = 0, …, 15`. -/
def cumsum (v : FVec F S16 .f32) : FVec F S16 .f32 :=
  let a0 := lane v 0 slices_S16_o0_S1
  let a1 := addf a0 (select (mask 1#32) (lane v 1 slices_S16_o1_S1) zeros)
  let a2 := addf a1 (select (mask 2#32) (lane v 2 slices_S16_o2_S1) zeros)
  let a3 := addf a2 (select (mask 3#32) (lane v 3 slices_S16_o3_S1) zeros)
  let a4 := addf a3 (select (mask 4#32) (lane v 4 slices_S16_o4_S1) zeros)
  let a5 := addf a4 (select (mask 5#32) (lane v 5 slices_S16_o5_S1) zeros)
  let a6 := addf a5 (select (mask 6#32) (lane v 6 slices_S16_o6_S1) zeros)
  let a7 := addf a6 (select (mask 7#32) (lane v 7 slices_S16_o7_S1) zeros)
  let a8 := addf a7 (select (mask 8#32) (lane v 8 slices_S16_o8_S1) zeros)
  let a9 := addf a8 (select (mask 9#32) (lane v 9 slices_S16_o9_S1) zeros)
  let a10 := addf a9 (select (mask 10#32) (lane v 10 slices_S16_o10_S1) zeros)
  let a11 := addf a10 (select (mask 11#32) (lane v 11 slices_S16_o11_S1) zeros)
  let a12 := addf a11 (select (mask 12#32) (lane v 12 slices_S16_o12_S1) zeros)
  let a13 := addf a12 (select (mask 13#32) (lane v 13 slices_S16_o13_S1) zeros)
  let a14 := addf a13 (select (mask 14#32) (lane v 14 slices_S16_o14_S1) zeros)
  addf a14 (select (mask 15#32) (lane v 15 slices_S16_o15_S1) zeros)

/-- The sum of a vector's lanes, in every lane: the last lane of its running sum. -/
def total (v : FVec F S16 .f32) : FVec F S16 .f32 := lane (cumsum v) 15 slices_S16_o15_S1

/-- The sums of the vectors 0 to `j` of a group, `j = 0, …, 7`, added as a tree of depth three. -/
def incl (v : Fin 8 → FVec F S16 .f32) : Fin 8 → FVec F S16 .f32
  | 0 => total (v 0)
  | 1 => addf (total (v 1)) (total (v 0))
  | 2 => addf (total (v 2)) (addf (total (v 1)) (total (v 0)))
  | 3 => addf (addf (total (v 3)) (total (v 2))) (addf (total (v 1)) (total (v 0)))
  | 4 => addf (total (v 4)) (addf (addf (total (v 3)) (total (v 2))) (addf (total (v 1)) (total (v 0))))
  | 5 => addf (addf (total (v 5)) (total (v 4))) (addf (addf (total (v 3)) (total (v 2))) (addf (total (v 1)) (total (v 0))))
  | 6 => addf (addf (total (v 6)) (addf (total (v 5)) (total (v 4))))
      (addf (addf (total (v 3)) (total (v 2))) (addf (total (v 1)) (total (v 0))))
  | 7 => addf (addf (addf (total (v 7)) (total (v 6))) (addf (total (v 5)) (total (v 4))))
      (addf (addf (total (v 3)) (total (v 2))) (addf (total (v 1)) (total (v 0))))

/-- What is added to vector `j`'s running sum: the carry and the sums of the vectors before it. -/
def before (c : FVec F S16 .f32) (v : Fin 8 → FVec F S16 .f32) : Fin 8 → FVec F S16 .f32
  | 0 => c
  | 1 => addf c (incl v 0)
  | 2 => addf c (incl v 1)
  | 3 => addf c (incl v 2)
  | 4 => addf c (incl v 3)
  | 5 => addf c (incl v 4)
  | 6 => addf c (incl v 5)
  | 7 => addf c (incl v 6)

/-- What a group stores over its vector `j`. -/
def scanned (c : FVec F S16 .f32) (v : Fin 8 → FVec F S16 .f32) (j : Fin 8) : FVec F S16 .f32 :=
  addf (cumsum (v j)) (before c v j)

/-- The carry a group passes on. -/
def carryOut (c : FVec F S16 .f32) (v : Fin 8 → FVec F S16 .f32) : FVec F S16 .f32 := addf c (incl v 7)

/-! ## A group as a program -/

/-- The programs of a vector subcore at the kernel's coordinates `i`. -/
abbrev TileProg (F : FTy → Type) (i : grid0.Coords) (α : Type) : Type 1 :=
  Prog (TpuEff nD τ sig (Elt F) Λ₀ (.scVector ((i 0).castLE hcore0) ((i 1).castLE hsub0))) α

/-- Sixteen columns of a two-row buffer, from `off`. -/
abbrev cols (off : Fin 2 → ℕ) (h : ∀ a : Fin 2, off a + S1x16.size a ≤ S2x32768.size a) : Rect S2x32768 :=
  Rect.unit (s := S2x32768) off S1x16.size h

/-- The load of sixteen columns. -/
def ldV (i : grid0.Coords) (b : Memref sig .scVector .vmem S2x32768 .f32) (off : Fin 2 → ℕ)
    (h : ∀ a : Fin 2, off a + S1x16.size a ≤ S2x32768.size a) : TileProg F i (Vec F S1x16 .f32) :=
  Prog.lift (.load b (cols off h).toLoadRect (View.loadsAt_vmem h_S1x16))

/-- The store of a vector over sixteen columns, which first reads them and drops what it read. -/
def stV (i : grid0.Coords) (b : Memref sig .scVector .vmem S2x32768 .f32) (off : Fin 2 → ℕ)
    (h : ∀ a : Fin 2, off a + S1x16.size a ≤ S2x32768.size a) (w : FVec F S16 .f32) : TileProg F i PUnit := do
  let _ ← ldV i b off h
  Prog.lift (.store b (cols off h) (shapeCast S1x16 w shapeCasts_S16_S1x16) Finset.univ (View.stores_vmem_bits_univ h_S1x16 rfl) (.inl rfl))

/-- A group on a buffer of two rows: the eight vectors at the offsets `off j` read, and each then overwritten. -/
def group (i : grid0.Coords) (b : Memref sig .scVector .vmem S2x32768 .f32) (off : Fin 8 → Fin 2 → ℕ)
    (h : ∀ (j : Fin 8) (a : Fin 2), off j a + S1x16.size a ≤ S2x32768.size a) (c : FVec F S16 .f32) : TileProg F i (FVec F S16 .f32) := do
  let l0 ← ldV i b (off 0) (h 0)
  let l1 ← ldV i b (off 1) (h 1)
  let l2 ← ldV i b (off 2) (h 2)
  let l3 ← ldV i b (off 3) (h 3)
  let l4 ← ldV i b (off 4) (h 4)
  let l5 ← ldV i b (off 5) (h 5)
  let l6 ← ldV i b (off 6) (h 6)
  let l7 ← ldV i b (off 7) (h 7)
  let v : Fin 8 → FVec F S16 .f32 := fun j => shapeCast S16 ((![l0, l1, l2, l3, l4, l5, l6, l7] : Fin 8 → Vec F S1x16 .f32) j) shapeCasts_S1x16_S16
  stV i b (off 0) (h 0) (scanned c v 0)
  stV i b (off 1) (h 1) (scanned c v 1)
  stV i b (off 2) (h 2) (scanned c v 2)
  stV i b (off 3) (h 3) (scanned c v 3)
  stV i b (off 4) (h 4) (scanned c v 4)
  stV i b (off 5) (h 5) (scanned c v 5)
  stV i b (off 6) (h 6) (scanned c v 6)
  stV i b (off 7) (h 7) (scanned c v 7)
  pure (carryOut c v)

section Regions

variable (i : grid0.Coords) (arg2 arg3 : Memref sig .scVector .hbm S128x32768 .f32) (h2 : arg2.IsWhole) (h3 : arg3.IsWhole)
  (b : Memref sig .scVector .vmem S2x32768 .f32) (hb : b.IsWhole) (s5 s6 s7 s8 : DmaSems sig S_) (v1 : BitVec 32)

set_option maxRecDepth 65536 in
/-- The first loop's region is a group. -/
theorem body1_eq (k : Fin k0_t1_loop.trips) (c : FVec F S16 .f32) :
    k0_t1_body i arg2 h2 arg3 h3 b hb s5 s6 s7 s8 v1 k0_pay217 k0_pay218 k0_pay219 k0_pay220 k0_pay221 k0_pay222 k0_pay223 k0_pay224 k0_pay225 k0_pay226 k0_pay227 k0_pay228 k0_pay229 k0_pay230 k0_pay231 k0_pay232 k c
      = group i b (fun j => k0_off2 k (BitVec.ofNat 32 (16 * j.val))) (fun j => k0_off2_inb k j) c := rfl

set_option maxRecDepth 65536 in
/-- The second loop's region is a group. -/
theorem body2_eq (z : FVec F S16 .f32) (k : Fin k0_t2_loop.trips) (c : FVec F S16 .f32) :
    k0_t2_body i arg2 h2 arg3 h3 b hb s5 s6 s7 s8 v1 k0_pay217 k0_pay218 k0_pay219 k0_pay220 k0_pay221 k0_pay222 k0_pay223 k0_pay224 k0_pay225 k0_pay226 k0_pay227 k0_pay228 k0_pay229 k0_pay230 k0_pay231 k0_pay232 z k c
      = group i b (fun j => k0_off3 k (BitVec.ofNat 32 (16 * j.val))) (fun j => k0_off3_inb k j) c := rfl

set_option maxRecDepth 65536 in
/-- The third loop's region is a group. -/
theorem body3_eq (k : Fin k0_t3_loop.trips) (c : FVec F S16 .f32) :
    k0_t3_body i arg2 h2 arg3 h3 b hb s5 s6 s7 s8 v1 k0_pay217 k0_pay218 k0_pay219 k0_pay220 k0_pay221 k0_pay222 k0_pay223 k0_pay224 k0_pay225 k0_pay226 k0_pay227 k0_pay228 k0_pay229 k0_pay230 k0_pay231 k0_pay232 k c
      = group i b (fun j => k0_off4 k (BitVec.ofNat 32 (16 * j.val))) (fun j => k0_off4_inb k j) c := rfl

set_option maxRecDepth 65536 in
/-- The fourth loop's region is a group. -/
theorem body4_eq (k : Fin k0_t4_loop.trips) (c : FVec F S16 .f32) :
    k0_t4_body i arg2 h2 arg3 h3 b hb s5 s6 s7 s8 v1 k0_pay217 k0_pay218 k0_pay219 k0_pay220 k0_pay221 k0_pay222 k0_pay223 k0_pay224 k0_pay225 k0_pay226 k0_pay227 k0_pay228 k0_pay229 k0_pay230 k0_pay231 k0_pay232 k c
      = group i b (fun j => k0_off5 k (BitVec.ofNat 32 (16 * j.val))) (fun j => k0_off5_inb k j) c := rfl

end Regions

end Cert.ScKernel.Run

end
-- ==== Proof.ScGroup.lean ====
/-
  THE SPARSECORE KERNEL'S LOOP. `scan g col` is what the kernel computes at column `col` of a row whose elements are `g`: the
  carry of the groups before, and within the group the vectors' running sums. A group run on a slab of the scratch takes the
  slab from scanned up to column `128k` to scanned up to column `128(k+1)` (`wp_group`), so a loop's 256 groups scan it
  whole (`wp_scan`).
-/
module

public import proofs.«01_k».proof.Proof.ScBody
public import Idealize.ShloMosaic.Lib.SparseCore.Quiescent
public import Idealize.ShloMosaic.Lib.Pipeline.Value
public import Idealize.ShloMosaic.Lib.Pipeline.Kit
public import Idealize.ShloMosaic.Lib.Tactic
public import Idealize.ShloMosaic.Lib.ValueIdx
public import Idealize.ShloMosaic.Lib.ValueLayout
public import Idealize.ShloMosaic.Lib.Writes

@[expose] public section

noncomputable section

namespace Cert.ScKernel.Run

open Cert.ScKernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra -/

abbrev UH : Type := URounds (GSem nD τ sig) ℕ
abbrev UU : Type := UH × Counters

local notation "𝕄" => MT nD τ sig (HIx 1) (Elt F) ℕ UU ℕ

variable [FloatOps F]

/-! ## The scan of a row -/

/-- The eight vectors of group `k` of a row. -/
def vecs (g : ℕ → F .f32) (k : ℕ) (j : Fin 8) : FVec F S16 .f32 := fun i => g (128 * k + 16 * j.val + (i 0).val)

/-- The carry before group `k`. -/
def carry (g : ℕ → F .f32) : ℕ → FVec F S16 .f32
  | 0 => zeros
  | k + 1 => carryOut (carry g k) (vecs g k)

/-- The scanned row at column `n`. -/
def scan (g : ℕ → F .f32) (n : ℕ) : F .f32 :=
  scanned (carry g (n / 128)) (vecs g (n / 128)) ⟨n % 128 / 16, by omega⟩ (ix1 ⟨n % 16, Nat.mod_lt _ (by decide)⟩)

/-- The scan at lane `l` of the group `k`'s vector `j`: the vector's running sum there, and what comes before the vector. -/
theorem scan_at (g : ℕ → F .f32) (k : ℕ) (j : Fin 8) (l : Fin 16) :
    scan g (128 * k + 16 * j.val + l.val) = scanned (carry g k) (vecs g k) j (ix1 l) := by
  have h1 : (128 * k + 16 * j.val + l.val) / 128 = k := by omega
  have h2 : (⟨(128 * k + 16 * j.val + l.val) % 128 / 16, by omega⟩ : Fin 8) = j := Fin.ext (by show _ % 128 / 16 = _; omega)
  have h3 : (⟨(128 * k + 16 * j.val + l.val) % 16, Nat.mod_lt _ (by decide)⟩ : Fin 16) = l := Fin.ext (by show _ % 16 = _; omega)
  unfold scan
  rw [h1, h2, h3]

/-! ## A slab of the scratch, scanned up to a column -/

abbrev sV : Memref sig .scVector .vmem S2x32768 .f32 := Memref.whole cc0_scratch0
abbrev cV (L : grid0.Coords) : Fin τ.nSC := (L 0).castLE hcore0
abbrev jV (L : grid0.Coords) : Fin τ.nSub := (L 1).castLE hsub0
/-- The vector subcore at the kernel's coordinates `L`. -/
abbrev thr (d : Dev nD) (L : grid0.Coords) : Thread nD τ := V d (cV L) (jV L)
/-- The scratch of the subcore at `L`. -/
abbrev sLoc (d : Dev nD) (L : grid0.Coords) : Loc nD τ sig := (sV).view.loc (thr d L)

/-- Row `b` of the scratch. -/
def slab (b : ℕ) : Finset S2x32768.Idx := Finset.univ.filter fun i => (i 0).val = b

/-- The contents `f` of row `b` are `g`, scanned at the columns before `n`. -/
def Scanned (b : ℕ) (g : ℕ → F .f32) (n : ℕ) (f : S2x32768.Idx → F .f32) : Prop :=
  ∀ i : S2x32768.Idx, (i 0).val = b → f i = if (i 1).val < n then scan g (i 1).val else g (i 1).val

variable (d : Dev nD) (L : grid0.Coords)

/-- Row `b` of the scratch, held with the columns before `n` scanned. -/
def Inv (b : ℕ) (g : ℕ → F .f32) (n : ℕ) : sProp 𝕄 :=
  iprop(∃ f : Buf (Elt F) (sLoc d L), ⌜Scanned b g n f⌝ ∗ sLoc d L ↦[slab b]{fullShare} f)

section Step

variable (b : ℕ) (g : ℕ → F .f32) (off : Fin 2 → ℕ) (h : ∀ a : Fin 2, off a + S1x16.size a ≤ S2x32768.size a)

/-- The sixteen columns lie in their row. -/
theorem cols_subset (h0 : off 0 = b) : ((sV).access (cols off h)).set ⊆ slab b := by
  rw [View.set_slice_whole]
  intro i hi
  have := Rect.mem_set_unit.mp hi 0
  refine Finset.mem_filter.mpr ⟨Finset.mem_univ _, ?_⟩
  have h1 : (S1x16.size 0 : ℕ) = 1 := rfl
  omega

/-- A vector's lanes lie in the slab at the columns from its offset on. -/
theorem cols_emb (h0 : off 0 = b) (n : ℕ) (h1 : off 1 = n) (l : Fin 16) :
    (((cols off h).emb (ix2 (0 : Fin 1) l)) 0).val = b ∧ (((cols off h).emb (ix2 (0 : Fin 1) l)) 1).val = n + l.val := by
  refine ⟨?_, ?_⟩
  · rw [Rect.emb_apply]; show off 0 + 1 * 0 = b; omega
  · rw [Rect.emb_apply]; show off 1 + 1 * l.val = _; omega

/-- What is read at columns not yet scanned. -/
theorem read_cols (h0 : off 0 = b) (n c : ℕ) (h1 : off 1 = c) (hn : n ≤ c) (f : Buf (Elt F) (sLoc d L)) (hf : Scanned b g n f) (l : Fin 16) :
    shapeCast S16 (((sV).access (cols off h)).read (Elt F) f) shapeCasts_S1x16_S16 (ix1 l) = g (c + l.val) := by
  rw [shapeCast_1a_a_apply]
  obtain ⟨e0, e1⟩ := cols_emb b off h h0 c h1 l
  show f ((cols off h).emb (ix2 (0 : Fin 1) l)) = _
  rw [hf _ e0, e1, if_neg (by omega)]

/-- What a store over the next sixteen columns leaves. -/
theorem write_cols (h0 : off 0 = b) (n : ℕ) (h1 : off 1 = n) (f : Buf (Elt F) (sLoc d L)) (hf : Scanned b g n f) (w : FVec F S16 .f32)
    (hw : ∀ l : Fin 16, w (ix1 l) = scan g (n + l.val)) :
    Scanned b g (n + 16) (((sV).access (cols off h)).write (Elt F) f (shapeCast S1x16 w shapeCasts_S16_S1x16) Finset.univ) := by
  intro i hi
  by_cases hc : n ≤ (i 1).val ∧ (i 1).val < n + 16
  · obtain ⟨e0, e1⟩ := cols_emb b off h h0 n h1 ⟨(i 1).val - n, by omega⟩
    have hi' : ((sV).access (cols off h)).emb (ix2 (0 : Fin 1) ⟨(i 1).val - n, by omega⟩) = i := by
      show (cols off h).emb (ix2 (0 : Fin 1) ⟨(i 1).val - n, by omega⟩) = i
      funext a
      match a with
      | 0 => exact Fin.ext (e0.trans hi.symm)
      | 1 => exact Fin.ext (e1.trans (by show n + ((i 1).val - n) = _; omega))
    rw [if_pos hc.2]
    conv_lhs => rw [← hi']
    rw [View.write_emb_of_mem _ _ (Finset.mem_univ _)]
    show shapeCast S1x16 w shapeCasts_S16_S1x16 (ix2 (0 : Fin 1) ⟨(i 1).val - n, by omega⟩) = _
    rw [shapeCast_a_1a_apply, hw]
    congr 1
    show n + ((i 1).val - n) = _
    omega
  · rw [View.write_of_not_mem, hf i hi]
    · by_cases h2 : (i 1).val < n
      · rw [if_pos h2, if_pos (by omega)]
      · rw [if_neg h2, if_neg (by omega)]
    · rw [View.setOn_univ, View.set_slice_whole]
      intro hm
      have := Rect.mem_set_unit.mp hm 1
      have h2 : (S1x16.size 1 : ℕ) = 16 := rfl
      omega

/-- A load of columns not yet scanned, at the head of a program. -/
theorem wp_ldV (h0 : off 0 = b) (n c : ℕ) (h1 : off 1 = c) (hn : n ≤ c) {α : Type} (kk : Vec F S1x16 .f32 → TileProg F L α) (Q : α → sProp 𝕄) :
    (Inv d L b g n : sProp 𝕄)
      ⊢ iprop((∀ v, ⌜∀ l : Fin 16, shapeCast S16 v shapeCasts_S1x16_S16 (ix1 l) = g (c + l.val)⌝ -∗ Inv d L b g n
            -∗ wp frame (wpE (defs₀ (F := F)) Variants.none (thr d L) none) Set.univ (kk v) Q)
          -∗ wp frame (wpE (defs₀ (F := F)) Variants.none (thr d L) none) Set.univ (ldV L sV off h >>= kk) Q) := by
  unfold Inv
  iintro ⟨%f, %hf, Hf⟩ Hk
  iapply (wp_load_rect (defs := defs₀ (F := F)) Variants.none (thr d L) none Set.univ (m := sV) (r := cols off h) (cols_subset b off h h0)) $$ Hf
  iintro Hf
  iapply Hk $$ %_ %(read_cols d L b g off h h0 n c h1 hn f hf)
  iexists f
  isplitr
  · ipureintro; exact hf
  · iexact Hf

/-- A store of the scan over the next sixteen columns, at the head of a program. -/
theorem wp_stV (h0 : off 0 = b) (n : ℕ) (h1 : off 1 = n) (w : FVec F S16 .f32) (hw : ∀ l : Fin 16, w (ix1 l) = scan g (n + l.val))
    {α : Type} (kk : PUnit → TileProg F L α) (Q : α → sProp 𝕄) :
    (Inv d L b g n : sProp 𝕄)
      ⊢ iprop((Inv d L b g (n + 16) -∗ wp frame (wpE (defs₀ (F := F)) Variants.none (thr d L) none) Set.univ (kk ⟨⟩) Q)
          -∗ wp frame (wpE (defs₀ (F := F)) Variants.none (thr d L) none) Set.univ (stV L sV off h w >>= kk) Q) := by
  iintro H Hk
  unfold stV
  rw [Prog.bind_assoc]
  iapply (wp_ldV d L b g off h h0 n n h1 le_rfl) $$ H
  iintro %v - H
  unfold Inv
  icases H with ⟨%f, %hf, Hf⟩
  iapply (wp_store (defs := defs₀ (F := F)) Variants.none (thr d L) none Set.univ (m := sV) (r := cols off h) (cols_subset b off h h0)) $$ Hf
  iintro Hf
  iapply Hk
  iexists _
  isplitr
  · ipureintro; exact write_cols d L b g off h h0 n h1 f hf w hw
  · iexact Hf

end Step

/-! ## A group, and a loop of them -/

section Loop

variable (b : ℕ) (g : ℕ → F .f32)

/-- Group `k` run on row `b` of the scratch, the columns before `128k` scanned. -/
theorem wp_group (off : Fin 8 → Fin 2 → ℕ) (h : ∀ (j : Fin 8) (a : Fin 2), off j a + S1x16.size a ≤ S2x32768.size a) (k : ℕ)
    (hoff : ∀ j : Fin 8, off j = ![b, 128 * k + 16 * j.val]) :
    (Inv d L b g (128 * k) : sProp 𝕄)
      ⊢ wp frame (wpE (defs₀ (F := F)) Variants.none (thr d L) none) Set.univ (group L sV off h (carry g k))
          fun c => iprop(⌜c = carry g (k + 1)⌝ ∗ Inv d L b g (128 * (k + 1))) := by
  have h0 : ∀ j, off j 0 = b := fun j => by rw [hoff]; rfl
  have h1 : ∀ j, off j 1 = 128 * k + 16 * j.val := fun j => by rw [hoff]; rfl
  unfold group
  iintro H
  iapply (wp_ldV d L b g (off 0) (h 0) (h0 0) _ _ (h1 0) (Nat.le_add_right _ _)) $$ H
  iintro %l0 %e0 H
  iapply (wp_ldV d L b g (off 1) (h 1) (h0 1) _ _ (h1 1) (Nat.le_add_right _ _)) $$ H
  iintro %l1 %e1 H
  iapply (wp_ldV d L b g (off 2) (h 2) (h0 2) _ _ (h1 2) (Nat.le_add_right _ _)) $$ H
  iintro %l2 %e2 H
  iapply (wp_ldV d L b g (off 3) (h 3) (h0 3) _ _ (h1 3) (Nat.le_add_right _ _)) $$ H
  iintro %l3 %e3 H
  iapply (wp_ldV d L b g (off 4) (h 4) (h0 4) _ _ (h1 4) (Nat.le_add_right _ _)) $$ H
  iintro %l4 %e4 H
  iapply (wp_ldV d L b g (off 5) (h 5) (h0 5) _ _ (h1 5) (Nat.le_add_right _ _)) $$ H
  iintro %l5 %e5 H
  iapply (wp_ldV d L b g (off 6) (h 6) (h0 6) _ _ (h1 6) (Nat.le_add_right _ _)) $$ H
  iintro %l6 %e6 H
  iapply (wp_ldV d L b g (off 7) (h 7) (h0 7) _ _ (h1 7) (Nat.le_add_right _ _)) $$ H
  iintro %l7 %e7 H
  have hv : (fun j => shapeCast S16 ((![l0, l1, l2, l3, l4, l5, l6, l7] : Fin 8 → Vec F S1x16 .f32) j) shapeCasts_S1x16_S16) = vecs g k := by
    funext j i
    rw [eq_ix1 i]
    match j with
    | 0 => exact e0 (i 0)
    | 1 => exact e1 (i 0)
    | 2 => exact e2 (i 0)
    | 3 => exact e3 (i 0)
    | 4 => exact e4 (i 0)
    | 5 => exact e5 (i 0)
    | 6 => exact e6 (i 0)
    | 7 => exact e7 (i 0)
  rw [hv]
  have hw : ∀ (j : Fin 8) (n : ℕ), n = 128 * k + 16 * j.val → ∀ l : Fin 16, scanned (carry g k) (vecs g k) j (ix1 l) = scan g (n + l.val) :=
    fun j n hn l => hn ▸ (scan_at g k j l).symm
  iapply (wp_stV d L b g (off 0) (h 0) (h0 0) _ (h1 0) _ (hw 0 _ rfl)) $$ H
  iintro H
  iapply (wp_stV d L b g (off 1) (h 1) (h0 1) _ (h1 1) _ (hw 1 _ rfl)) $$ H
  iintro H
  iapply (wp_stV d L b g (off 2) (h 2) (h0 2) _ (h1 2) _ (hw 2 _ rfl)) $$ H
  iintro H
  iapply (wp_stV d L b g (off 3) (h 3) (h0 3) _ (h1 3) _ (hw 3 _ rfl)) $$ H
  iintro H
  iapply (wp_stV d L b g (off 4) (h 4) (h0 4) _ (h1 4) _ (hw 4 _ rfl)) $$ H
  iintro H
  iapply (wp_stV d L b g (off 5) (h 5) (h0 5) _ (h1 5) _ (hw 5 _ rfl)) $$ H
  iintro H
  iapply (wp_stV d L b g (off 6) (h 6) (h0 6) _ (h1 6) _ (hw 6 _ rfl)) $$ H
  iintro H
  iapply (wp_stV d L b g (off 7) (h 7) (h0 7) _ (h1 7) _ (hw 7 _ rfl)) $$ H
  iintro H
  rw [wp_pure]
  imodintro
  isplitr
  · ipureintro; rfl
  · iexact H

/-- A loop of 256 groups, at the head of a program, scans a row of the scratch. -/
theorem wp_scan (l : Scf.Loop 32) (hl : l.OK) (ht : l.trips = 256) (body : Fin l.trips → FVec F S16 .f32 → TileProg F L (FVec F S16 .f32))
    (off : Fin l.trips → Fin 8 → Fin 2 → ℕ) (h : ∀ k (j : Fin 8) (a : Fin 2), off k j a + S1x16.size a ≤ S2x32768.size a)
    (hbody : ∀ k c, body k c = group L sV (off k) (h k) c) (hoff : ∀ k (j : Fin 8), off k j = ![b, 128 * k.val + 16 * j.val])
    (z : FVec F S16 .f32) (hz : z = zeros) {α : Type} (kk : FVec F S16 .f32 → TileProg F L α) (Q : α → sProp 𝕄) :
    (Inv d L b g 0 : sProp 𝕄)
      ⊢ iprop((∀ c, Inv d L b g 32768 -∗ wp frame (wpE (defs₀ (F := F)) Variants.none (thr d L) none) Set.univ (kk c) Q)
          -∗ wp frame (wpE (defs₀ (F := F)) Variants.none (thr d L) none) Set.univ (Scf.Loop.for l hl z body >>= kk) Q) := by
  iintro H Hk
  iapply (Scf.wp_for_bind frame (wpE (defs₀ (F := F)) Variants.none (thr d L) none) Set.univ l.lb l.ub l.st hl z body
    (fun k c => iprop(⌜c = carry g k⌝ ∗ Inv d L b g (128 * k))) (by
      intro k c
      rw [hbody]
      iintro ⟨%hc, H⟩
      rw [hc]
      iapply (wp_group d L b g (off k) (h k) k.val (hoff k)) $$ H)) $$ [H]
  · isplitr
    · ipureintro; exact hz
    · iexact H
  · iintro %c ⟨-, H⟩
    iapply Hk
    rw [show Scf.trips l.lb l.ub l.st = 256 from ht]
    iexact H

end Loop

end Cert.ScKernel.Run

end
-- ==== Proof.ScTile.lean ====
/-
  THE SPARSECORE KERNEL'S TASK. `tile` is the kernel's body on one vector subcore in its own words: four rows fetched from the
  array in turn into the two rows of the scratch, scanned there and copied out to the result, the fetch of the next row under way
  while a row is scanned. `tile_run` is its run: from the task's four rows of the array and of the result, the result's rows end
  holding the array's rows scanned.
-/
module

public import proofs.«01_k».proof.Proof.ScGroup
public import Idealize.ShloMosaic.Lib.Transfers

@[expose] public section

noncomputable section

namespace Cert.ScKernel.Run

open Cert.ScKernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The buffers and their parts -/

abbrev xV : Memref sig .scVector .hbm S128x32768 .f32 := Memref.whole main_arg0_scv
abbrev oV : Memref sig .scVector .hbm S128x32768 .f32 := Memref.whole main_v0_scv

/-- The array and the result, as locations of device `d`. -/
abbrev xLoc (d : Dev nD) : Loc nD τ sig := (SparseCore.T d).loc main_arg0
abbrev oLoc (d : Dev nD) : Loc nD τ sig := (SparseCore.T d).loc main_v0

/-- Row `n` of the array, or of the result. -/
def rowSet (n : ℕ) : Finset S128x32768.Idx := Finset.univ.filter fun i => (i 0).val = n

/-- The first of the four rows of the task at `L`, and its row `r`. -/
def rowNo (L : grid0.Coords) (r : Fin 4) : ℕ := 8 * (L 1).val + 4 * (L 0).val + r.val

variable (d : Dev nD) (L : grid0.Coords)

abbrev rowRect (r : Fin 4) : Rect S128x32768 := Rect.unit (s := S128x32768) (k0_off1 L (BitVec.ofNat 32 r.val)) S1x32768.size (k0_off1_inb L r)
abbrev xRow (r : Fin 4) : Memref sig .scVector .hbm S32768 .f32 := ((xV).slice (rowRect L r) (fun _ => rfl)).squeeze S32768 squeezes_S1x32768_S32768
abbrev oRow (r : Fin 4) : Memref sig .scVector .hbm S32768 .f32 := ((oV).slice (rowRect L r) (fun _ => rfl)).squeeze S32768 squeezes_S1x32768_S32768
abbrev slabRect (b : ℕ) (hb : ∀ a : Fin 2, (![b, 0] : Fin 2 → ℕ) a + S1x32768.size a ≤ S2x32768.size a) : Rect S2x32768 :=
  Rect.unit (s := S2x32768) ![b, 0] S1x32768.size hb
abbrev slabV (b : ℕ) (hb : ∀ a : Fin 2, (![b, 0] : Fin 2 → ℕ) a + S1x32768.size a ≤ S2x32768.size a) : Memref sig .scVector .vmem S32768 .f32 :=
  ((sV).slice (slabRect b hb) (fun _ => rfl)).squeeze S32768 squeezes_S1x32768_S32768

/-- A one-row window's place for column `c`. -/
theorem reshape_row (h : S32768.numel = S1x32768.numel) (c : Fin 32768) : Shape.reshapeEquiv h (ix1 c) = ix2 (0 : Fin 1) c :=
  Shape.reshapeEquiv_eq_of_rowMajor h (by
    rw [Shape.rowMajor_val_two, Shape.rowMajor_val_one]
    show 0 * 32768 + c.val = c.val
    omega)

/-- A row's copy starts at the row, -/
theorem off1_zero (r : Fin 4) : k0_off1 L (BitVec.ofNat 32 r.val) 0 = rowNo L r := by rw [k0_off1_eq]; rfl
/-- in column zero. -/
theorem off1_one (r : Fin 4) : k0_off1 L (BitVec.ofNat 32 r.val) 1 = 0 := by rw [k0_off1_eq]; rfl

/-- A task's rows are rows of the array. -/
theorem rowNo_lt (r : Fin 4) : rowNo L r < 128 := by
  have h0 : (L 0).val < 2 := (L 0).isLt
  have h1 : (L 1).val < 16 := (L 1).isLt
  have := r.isLt
  unfold rowNo
  omega

/-- The rectangle a row's copy names is the row. -/
theorem rowRect_set (r : Fin 4) : (rowRect L r).set = rowSet (rowNo L r) := by
  ext i
  rw [Rect.mem_set_unit]
  have h1 : (i 1).val < 32768 := (i 1).isLt
  simp only [rowSet, Finset.mem_filter, Finset.mem_univ, true_and]
  refine ⟨fun h => ?_, fun h a => ?_⟩
  · have h0 : k0_off1 L (BitVec.ofNat 32 r.val) 0 ≤ (i 0).val ∧ (i 0).val < k0_off1 L (BitVec.ofNat 32 r.val) 0 + 1 := h 0
    rw [off1_zero] at h0
    omega
  · match a with
    | 0 =>
      show k0_off1 L (BitVec.ofNat 32 r.val) 0 ≤ (i 0).val ∧ (i 0).val < k0_off1 L (BitVec.ofNat 32 r.val) 0 + 1
      rw [off1_zero]
      omega
    | 1 =>
      show k0_off1 L (BitVec.ofNat 32 r.val) 1 ≤ (i 1).val ∧ (i 1).val < k0_off1 L (BitVec.ofNat 32 r.val) 1 + 32768
      rw [off1_one]
      omega

/-- The rectangle a slab's copy names is the slab. -/
theorem slabRect_set (b : ℕ) (hb) : (slabRect b hb).set = slab b := by
  ext i
  rw [Rect.mem_set_unit]
  have h1 : (i 1).val < 32768 := (i 1).isLt
  simp only [slab, Finset.mem_filter, Finset.mem_univ, true_and]
  refine ⟨fun h => ?_, fun h a => ?_⟩
  · have h0 : b ≤ (i 0).val ∧ (i 0).val < b + 1 := h 0
    omega
  · match a with
    | 0 => show b ≤ (i 0).val ∧ (i 0).val < b + 1; omega
    | 1 => show 0 ≤ (i 1).val ∧ (i 1).val < 0 + 32768; omega

/-- The array's view names the row, -/
theorem set_xRow (r : Fin 4) : (xRow L r).view.set = rowSet (rowNo L r) := by
  show (((xV).view.slice (rowRect L r)).reshape S32768 squeezes_S1x32768_S32768.numel_eq).set = _
  rw [View.set_reshape, View.set_slice_whole]; exact rowRect_set L r
/-- so does the result's, -/
theorem set_oRow (r : Fin 4) : (oRow L r).view.set = rowSet (rowNo L r) := by
  show (((oV).view.slice (rowRect L r)).reshape S32768 squeezes_S1x32768_S32768.numel_eq).set = _
  rw [View.set_reshape, View.set_slice_whole]; exact rowRect_set L r
/-- and the scratch's names the slab. -/
theorem set_slabV (b : ℕ) (hb) : (slabV b hb).view.set = slab b := by
  show (((sV).view.slice (slabRect b hb)).reshape S32768 squeezes_S1x32768_S32768.numel_eq).set = _
  rw [View.set_reshape, View.set_slice_whole]; exact slabRect_set b hb

/-- Column `c` of the row's rectangle. -/
theorem rowRect_emb (r : Fin 4) (c : Fin 32768) : (rowRect L r).emb (ix2 (0 : Fin 1) c) = ix2 ⟨rowNo L r, rowNo_lt L r⟩ c := by
  funext a
  match a with
  | 0 => exact Fin.ext (by rw [Rect.emb_apply]; show k0_off1 L (BitVec.ofNat 32 r.val) 0 + 1 * 0 = rowNo L r; rw [off1_zero]; omega)
  | 1 => exact Fin.ext (by rw [Rect.emb_apply]; show k0_off1 L (BitVec.ofNat 32 r.val) 1 + 1 * c.val = c.val; rw [off1_one]; omega)

/-- Column `c` of the slab's rectangle. -/
theorem slabRect_emb (b : ℕ) (hb) (c : Fin 32768) (i : S2x32768.Idx) (h0 : (i 0).val = b) (h1 : (i 1).val = c.val) :
    (slabRect b hb).emb (ix2 (0 : Fin 1) c) = i := by
  funext a
  match a with
  | 0 => exact Fin.ext (by rw [Rect.emb_apply]; show b + 1 * 0 = (i 0).val; omega)
  | 1 => exact Fin.ext (by rw [Rect.emb_apply]; show 0 + 1 * c.val = (i 1).val; omega)

/-- Column `c` of a row's view is that row's element `c`, -/
theorem emb_xRow (r : Fin 4) (c : Fin 32768) : (xRow L r).view.emb (ix1 c) = ix2 ⟨rowNo L r, rowNo_lt L r⟩ c :=
  (congrArg (rowRect L r).emb (reshape_row _ c)).trans (rowRect_emb L r c)
/-- of the result's view the result's, -/
theorem emb_oRow (r : Fin 4) (c : Fin 32768) : (oRow L r).view.emb (ix1 c) = ix2 ⟨rowNo L r, rowNo_lt L r⟩ c :=
  (congrArg (rowRect L r).emb (reshape_row _ c)).trans (rowRect_emb L r c)
/-- and of a slab's view the slab's. -/
theorem emb_slabV (b : ℕ) (hb) (c : Fin 32768) (i : S2x32768.Idx) (h0 : (i 0).val = b) (h1 : (i 1).val = c.val) :
    (slabV b hb).view.emb (ix1 c) = i :=
  (congrArg (slabRect b hb).emb (reshape_row _ c)).trans (slabRect_emb b hb c i h0 h1)

variable [FloatOps F]

/-! ## The values -/

/-- The elements of row `r` of an array, and zero past the row's end. -/
def elts (x : S128x32768.Idx → F .f32) (r : Fin 128) (k : ℕ) : F .f32 :=
  if h : k < 32768 then x (ix2 r ⟨k, h⟩) else Scalar.ofBits .f32 0x00000000#32

/-- An array with every row scanned. -/
def scanRows (x : S128x32768.Idx → F .f32) (i : S128x32768.Idx) : F .f32 := scan (elts x (i 0)) (i 1).val

/-- A fetch into a slab leaves the row there, nothing of it scanned. -/
theorem fetched (r : Fin 4) (b : ℕ) (hb) (x : Buf (Elt F) (xLoc d)) (f : Buf (Elt F) (sLoc d L)) :
    Scanned b (elts x ⟨rowNo L r, rowNo_lt L r⟩) 0
      ((slabV b hb).view.write (Elt F) f ((ReadAs.same).apply ((xRow L r).view.read (Elt F) x)) Finset.univ) := by
  intro i hi
  have h1 : (i 1).val < 32768 := (i 1).isLt
  rw [if_neg (by omega)]
  conv_lhs => rw [← emb_slabV b hb ⟨(i 1).val, h1⟩ i hi rfl]
  rw [View.write_emb_of_mem _ _ (Finset.mem_univ _)]
  show x ((xRow L r).view.emb (ix1 ⟨(i 1).val, h1⟩)) = _
  rw [emb_xRow, elts, dif_pos h1]

/-- A copy of a scanned slab out to a row leaves the row scanned. -/
theorem put (r : Fin 4) (b : ℕ) (hb) (x : Buf (Elt F) (xLoc d)) (f : Buf (Elt F) (sLoc d L)) (fo : Buf (Elt F) (oLoc d))
    (hb0 : b < 2) (hf : Scanned b (elts x ⟨rowNo L r, rowNo_lt L r⟩) 32768 f) :
    ∀ i ∈ rowSet (rowNo L r),
      (oRow L r).view.write (Elt F) fo ((ReadAs.same).apply ((slabV b hb).view.read (Elt F) f)) Finset.univ i = scanRows x i := by
  intro i hi
  have h0 : (i 0).val = rowNo L r := (Finset.mem_filter.mp hi).2
  have h1 : (i 1).val < 32768 := (i 1).isLt
  have hi' : (oRow L r).view.emb (ix1 ⟨(i 1).val, h1⟩) = i := by
    rw [emb_oRow]
    funext a
    match a with
    | 0 => exact Fin.ext h0.symm
    | 1 => rfl
  conv_lhs => rw [← hi']
  rw [View.write_emb_of_mem _ _ (Finset.mem_univ _)]
  show f ((slabV b hb).view.emb (ix1 ⟨(i 1).val, h1⟩)) = _
  rw [emb_slabV b hb ⟨(i 1).val, h1⟩ (ix2 ⟨b, hb0⟩ ⟨(i 1).val, h1⟩) rfl rfl, hf _ rfl, if_pos (show (i 1).val < 32768 from h1)]
  show scan (elts x ⟨rowNo L r, rowNo_lt L r⟩) (i 1).val = scan (elts x (i 0)) (i 1).val
  rw [show (⟨rowNo L r, rowNo_lt L r⟩ : Fin 128) = i 0 from Fin.ext h0.symm]

/-! ## The copies -/

/-- The fetch of row `r` into slab `b`, completing on `s`. -/
def fetch (r : Fin 4) (b : ℕ) (hb : ∀ a : Fin 2, (![b, 0] : Fin 2 → ℕ) a + S1x32768.size a ≤ S2x32768.size a) (s : DmaSems sig S_) :
    TileProg F L PUnit :=
  Prog.lift (.enqueueDma (xRow L r) (.here (slabV b hb)) (.dma s.sem) ((View.wordExact_bits rfl).reshape _ _) ((View.wordExact_bits rfl).reshape _ _)
    ⟨Or.inl rfl, trivial⟩)
/-- The wait for a fetch. -/
def waitFetch (r : Fin 4) (b : ℕ) (hb : ∀ a : Fin 2, (![b, 0] : Fin 2 → ℕ) a + S1x32768.size a ≤ S2x32768.size a) (s : DmaSems sig S_) :
    TileProg F L PUnit :=
  Prog.lift (.waitDma2 s.sem (xRow L r) (slabV b hb) ((View.wordExact_bits rfl).reshape _ _) ((View.wordExact_bits rfl).reshape _ _))
/-- The copy of slab `b` out to row `r` of the result, completing on `s`. -/
def copyOut (r : Fin 4) (b : ℕ) (hb : ∀ a : Fin 2, (![b, 0] : Fin 2 → ℕ) a + S1x32768.size a ≤ S2x32768.size a) (s : DmaSems sig S_) :
    TileProg F L PUnit :=
  Prog.lift (.enqueueDma (slabV b hb) (.here (oRow L r)) (.dma s.sem) ((View.wordExact_bits rfl).reshape _ _) ((View.wordExact_bits rfl).reshape _ _)
    ⟨Or.inl rfl, trivial⟩)
/-- The wait for a copy out. -/
def waitOut (r : Fin 4) (b : ℕ) (hb : ∀ a : Fin 2, (![b, 0] : Fin 2 → ℕ) a + S1x32768.size a ≤ S2x32768.size a) (s : DmaSems sig S_) :
    TileProg F L PUnit :=
  Prog.lift (.waitDma2 s.sem (slabV b hb) (oRow L r) ((View.wordExact_bits rfl).reshape _ _) ((View.wordExact_bits rfl).reshape _ _))

section Loops

/-- The first row's loop, over its printed region at the zeros and masks the kernel makes first. -/
def loop1 : TileProg F L (FVec F S16 .f32) :=
  Scf.Loop.for k0_t1_loop k0_t1_ok k0_pay233 (k0_t1_body L xV (Memref.isWhole_whole _) oV (Memref.isWhole_whole _) sV (Memref.isWhole_whole _)
    cc0_scratch1 cc0_scratch2 cc0_scratch3 cc0_scratch4 (Scalar.addi (Scalar.muli (BitVec.ofNat 32 (L 1).val) 2#32) (BitVec.ofNat 32 (L 0).val))
    k0_pay217 k0_pay218 k0_pay219 k0_pay220 k0_pay221 k0_pay222 k0_pay223 k0_pay224 k0_pay225 k0_pay226 k0_pay227 k0_pay228 k0_pay229 k0_pay230 k0_pay231 k0_pay232)
/-- The second row's loop. -/
def loop2 : TileProg F L (FVec F S16 .f32) :=
  Scf.Loop.for k0_t2_loop k0_t2_ok k0_pay235 (k0_t2_body L xV (Memref.isWhole_whole _) oV (Memref.isWhole_whole _) sV (Memref.isWhole_whole _)
    cc0_scratch1 cc0_scratch2 cc0_scratch3 cc0_scratch4 (Scalar.addi (Scalar.muli (BitVec.ofNat 32 (L 1).val) 2#32) (BitVec.ofNat 32 (L 0).val))
    k0_pay217 k0_pay218 k0_pay219 k0_pay220 k0_pay221 k0_pay222 k0_pay223 k0_pay224 k0_pay225 k0_pay226 k0_pay227 k0_pay228 k0_pay229 k0_pay230 k0_pay231 k0_pay232 k0_pay235)
/-- The third row's loop. -/
def loop3 : TileProg F L (FVec F S16 .f32) :=
  Scf.Loop.for k0_t3_loop k0_t3_ok k0_pay237 (k0_t3_body L xV (Memref.isWhole_whole _) oV (Memref.isWhole_whole _) sV (Memref.isWhole_whole _)
    cc0_scratch1 cc0_scratch2 cc0_scratch3 cc0_scratch4 (Scalar.addi (Scalar.muli (BitVec.ofNat 32 (L 1).val) 2#32) (BitVec.ofNat 32 (L 0).val))
    k0_pay217 k0_pay218 k0_pay219 k0_pay220 k0_pay221 k0_pay222 k0_pay223 k0_pay224 k0_pay225 k0_pay226 k0_pay227 k0_pay228 k0_pay229 k0_pay230 k0_pay231 k0_pay232)
/-- The fourth row's loop. -/
def loop4 : TileProg F L (FVec F S16 .f32) :=
  Scf.Loop.for k0_t4_loop k0_t4_ok k0_pay239 (k0_t4_body L xV (Memref.isWhole_whole _) oV (Memref.isWhole_whole _) sV (Memref.isWhole_whole _)
    cc0_scratch1 cc0_scratch2 cc0_scratch3 cc0_scratch4 (Scalar.addi (Scalar.muli (BitVec.ofNat 32 (L 1).val) 2#32) (BitVec.ofNat 32 (L 0).val))
    k0_pay217 k0_pay218 k0_pay219 k0_pay220 k0_pay221 k0_pay222 k0_pay223 k0_pay224 k0_pay225 k0_pay226 k0_pay227 k0_pay228 k0_pay229 k0_pay230 k0_pay231 k0_pay232)

end Loops

/-- The kernel on the vector subcore at `L`. -/
def tile : TileProg F L PUnit := do
  fetch L 0 0 inb_S2x32768_S1x32768_0_0 cc0_scratch1
  fetch L 1 1 inb_S2x32768_S1x32768_1_0 cc0_scratch2
  waitFetch L 0 0 inb_S2x32768_S1x32768_0_0 cc0_scratch1
  let _ ← loop1 L
  copyOut L 0 0 inb_S2x32768_S1x32768_0_0 cc0_scratch3
  waitOut L 0 0 inb_S2x32768_S1x32768_0_0 cc0_scratch3
  fetch L 2 0 inb_S2x32768_S1x32768_0_0 cc0_scratch1
  waitFetch L 1 1 inb_S2x32768_S1x32768_1_0 cc0_scratch2
  let _ ← loop2 L
  copyOut L 1 1 inb_S2x32768_S1x32768_1_0 cc0_scratch4
  waitOut L 1 1 inb_S2x32768_S1x32768_1_0 cc0_scratch4
  fetch L 3 1 inb_S2x32768_S1x32768_1_0 cc0_scratch2
  waitFetch L 2 0 inb_S2x32768_S1x32768_0_0 cc0_scratch1
  let _ ← loop3 L
  copyOut L 2 0 inb_S2x32768_S1x32768_0_0 cc0_scratch3
  waitFetch L 3 1 inb_S2x32768_S1x32768_1_0 cc0_scratch2
  let _ ← loop4 L
  copyOut L 3 1 inb_S2x32768_S1x32768_1_0 cc0_scratch4
  waitOut L 2 0 inb_S2x32768_S1x32768_0_0 cc0_scratch3
  waitOut L 3 1 inb_S2x32768_S1x32768_1_0 cc0_scratch4
  pure ⟨⟩

set_option maxRecDepth 65536 in
/-- The printed kernel, as its parts bracket it. -/
theorem kernel_parts : cc0_k (F := F) L xV (Memref.isWhole_whole _) oV (Memref.isWhole_whole _) sV (Memref.isWhole_whole _)
    cc0_scratch1 cc0_scratch2 cc0_scratch3 cc0_scratch4 = (do
  (do
    fetch L 0 0 inb_S2x32768_S1x32768_0_0 cc0_scratch1
    fetch L 1 1 inb_S2x32768_S1x32768_1_0 cc0_scratch2
    waitFetch L 0 0 inb_S2x32768_S1x32768_0_0 cc0_scratch1
    let _ ← loop1 L
    pure PUnit.unit)
  copyOut L 0 0 inb_S2x32768_S1x32768_0_0 cc0_scratch3
  waitOut L 0 0 inb_S2x32768_S1x32768_0_0 cc0_scratch3
  fetch L 2 0 inb_S2x32768_S1x32768_0_0 cc0_scratch1
  waitFetch L 1 1 inb_S2x32768_S1x32768_1_0 cc0_scratch2
  (do
    let _ ← loop2 L
    copyOut L 1 1 inb_S2x32768_S1x32768_1_0 cc0_scratch4
    waitOut L 1 1 inb_S2x32768_S1x32768_1_0 cc0_scratch4
    fetch L 3 1 inb_S2x32768_S1x32768_1_0 cc0_scratch2
    pure PUnit.unit)
  let _ ← (do
    waitFetch L 2 0 inb_S2x32768_S1x32768_0_0 cc0_scratch1
    let _ ← loop3 L
    copyOut L 2 0 inb_S2x32768_S1x32768_0_0 cc0_scratch3
    waitFetch L 3 1 inb_S2x32768_S1x32768_1_0 cc0_scratch2
    let _ ← loop4 L
    pure (Scalar.muli (Scalar.addi (Scalar.muli (BitVec.ofNat 32 (L 1).val) 2#32) (BitVec.ofNat 32 (L 0).val)) 4#32))
  copyOut L 3 1 inb_S2x32768_S1x32768_1_0 cc0_scratch4
  waitOut L 2 0 inb_S2x32768_S1x32768_0_0 cc0_scratch3
  waitOut L 3 1 inb_S2x32768_S1x32768_1_0 cc0_scratch4
  pure PUnit.unit) := rfl

/-- The printed kernel is `tile`. -/
theorem kernel_eq : cc0_k (F := F) L xV (Memref.isWhole_whole _) oV (Memref.isWhole_whole _) sV (Memref.isWhole_whole _)
    cc0_scratch1 cc0_scratch2 cc0_scratch3 cc0_scratch4 = tile L := by
  rw [kernel_parts]
  simp only [tile, bind_assoc, pure_bind]

/-! ## The task's run -/

section Run

abbrev xRowPts (x : Buf (Elt F) (xLoc d)) (r : Fin 4) : sProp 𝕄 := xLoc d ↦[rowSet (rowNo L r)]{fullShare} x
abbrev oRowPts (r : Fin 4) (f : Buf (Elt F) (oLoc d)) : sProp 𝕄 := oLoc d ↦[rowSet (rowNo L r)]{fullShare} f
/-- A slab, whatever it holds. -/
abbrev Slab (b : ℕ) : sProp 𝕄 := iprop(∃ f : Buf (Elt F) (sLoc d L), sLoc d L ↦[slab b]{fullShare} f)
/-- A semaphore at zero. -/
abbrev Idle (s : DmaSems sig S_) : sProp 𝕄 := semVal (thr d L, .dma s.sem) 0
/-- What the subcore owes, at whatever waits it has made. -/
abbrev Owes (O : CellTallies nD τ sig (HIx 1)) : sProp 𝕄 := iprop(∃ W, owes (thr d L) O W)

/-- What the array's view holds is the row, -/
theorem pts_xRow (r : Fin 4) (x : Buf (Elt F) (xLoc d)) :
    ((xRow L r).view.loc (thr d L) ↦[(xRow L r).view.set]{fullShare} x : sProp 𝕄) = xRowPts d L x r := by rw [set_xRow]
/-- what the result's view holds is the row, -/
theorem pts_oRow (r : Fin 4) (f : Buf (Elt F) (oLoc d)) :
    ((oRow L r).view.loc (thr d L) ↦[(oRow L r).view.set]{fullShare} f : sProp 𝕄) = oRowPts d L r f := by rw [set_oRow]
/-- what the scratch's view holds is the slab. -/
theorem pts_slabV (b : ℕ) (hb) (f : Buf (Elt F) (sLoc d L)) :
    ((slabV b hb).view.loc (thr d L) ↦[(slabV b hb).view.set]{fullShare} f : sProp 𝕄) = sLoc d L ↦[slab b]{fullShare} f := by rw [set_slabV]

variable (x : Buf (Elt F) (xLoc d)) (r : Fin 4) (b : ℕ) (hb : ∀ a : Fin 2, (![b, 0] : Fin 2 → ℕ) a + S1x32768.size a ≤ S2x32768.size a)
  (s : DmaSems sig S_) (O : CellTallies nD τ sig (HIx 1))

/-- A fetch under way: it brings the slab holding the row, and the row back. -/
abbrev Fetching : sProp 𝕄 := Transfers.Flight countersEmb (thr d L) (.dma s.sem) (default : HIx 1) (slabV b hb).view.dmaCredit
  iprop(Inv d L b (elts x ⟨rowNo L r, rowNo_lt L r⟩) 0 ∗ xRowPts d L x r)
/-- A copy out under way: it brings the result's row at the array's row scanned, and the slab back. -/
abbrev CopyingOut : sProp 𝕄 := Transfers.Flight countersEmb (thr d L) (.dma s.sem) (default : HIx 1) (oRow L r).view.dmaCredit
  iprop(oRowPts d L r (scanRows x) ∗ Slab d L b)

/-- Starting a fetch gives the row and the slab to it. -/
theorem wp_fetch {α : Type} (kk : PUnit → TileProg F L α) (Q : α → sProp 𝕄) : iprop(xRowPts d L x r ∗ Slab d L b ∗ Idle d L s)
    ⊢ iprop((Fetching d L x r b hb s -∗ wp frame (wpE (defs₀ (F := F)) Variants.none (thr d L) none) Set.univ (kk ⟨⟩) Q)
        -∗ wp frame (wpE (defs₀ (F := F)) Variants.none (thr d L) none) Set.univ (fetch L r b hb s >>= kk) Q) := by
  iintro ⟨Hx, ⟨%f, Hs⟩, Hv⟩ Hk
  iapply (Transfers.wp_dmaLocal countersEmb Variants.none (thr d L) none (src := xRow L r) (dst := slabV b hb) (via := .same) (sm := .dma s.sem)
    (default : HIx 1) (slabV b hb).view.dmaCredit rfl (View.dmaCredit_pos _ (by decide)) (Finset.Subset.refl _)) $$ [Hx Hs Hv]
  · isplitl [Hx]; · iapply (Entails.of_eq (pts_xRow d L r x).symm); iexact Hx
    isplitl [Hs]; · iapply (Entails.of_eq (pts_slabV d L b hb f).symm); iexact Hs
    iexact Hv
  iintro Hf
  iapply Hk
  iapply (Transfers.Flight_mono countersEmb (thr d L) (show _ ⊢ iprop(Inv d L b (elts x ⟨rowNo L r, rowNo_lt L r⟩) 0 ∗ xRowPts d L x r) from by
    iintro ⟨Hs, Hx⟩
    isplitl [Hs]
    · unfold Inv
      iexists _
      isplitr
      · ipureintro; exact fetched d L r b hb x f
      · iapply (Entails.of_eq (pts_slabV d L b hb _)); iexact Hs
    · iapply (Entails.of_eq (pts_xRow d L r x)); iexact Hx)) $$ Hf

/-- Starting a copy out gives the scanned slab and the result's row to it. -/
theorem wp_copyOut (hb0 : b < 2) {α : Type} (kk : PUnit → TileProg F L α) (Q : α → sProp 𝕄) : iprop(Inv d L b (elts x ⟨rowNo L r, rowNo_lt L r⟩) 32768 ∗ (∃ f, oRowPts d L r f) ∗ Idle d L s)
    ⊢ iprop((CopyingOut d L x r b s -∗ wp frame (wpE (defs₀ (F := F)) Variants.none (thr d L) none) Set.univ (kk ⟨⟩) Q)
        -∗ wp frame (wpE (defs₀ (F := F)) Variants.none (thr d L) none) Set.univ (copyOut L r b hb s >>= kk) Q) := by
  unfold Inv
  iintro ⟨⟨%f, %hf, Hs⟩, ⟨%fo, Ho⟩, Hv⟩ Hk
  iapply (Transfers.wp_dmaLocal countersEmb Variants.none (thr d L) none (src := slabV b hb) (dst := oRow L r) (via := .same) (sm := .dma s.sem)
    (default : HIx 1) (oRow L r).view.dmaCredit rfl (View.dmaCredit_pos _ (by decide)) (Finset.Subset.refl _)) $$ [Ho Hs Hv]
  · isplitl [Hs]; · iapply (Entails.of_eq (pts_slabV d L b hb f).symm); iexact Hs
    isplitl [Ho]; · iapply (Entails.of_eq (pts_oRow d L r fo).symm); iexact Ho
    iexact Hv
  iintro Hf
  iapply Hk
  iapply (Transfers.Flight_mono countersEmb (thr d L) (show _ ⊢ iprop(oRowPts d L r (scanRows x) ∗ Slab d L b) from by
    iintro ⟨Ho, Hs⟩
    isplitl [Ho]
    · iapply (Entails.of_eq ((pts_oRow d L r _).trans (pointsTo_congr (put d L r b hb x f fo hb0 hf)))); iexact Ho
    · iexists f
      iapply (Entails.of_eq (pts_slabV d L b hb f)); iexact Hs)) $$ Hf

/-- The wait for a fetch gives back the row, and the slab holding it. -/
theorem wp_waitFetch {α : Type} (kk : PUnit → TileProg F L α) (Q : α → sProp 𝕄) : iprop(Fetching d L x r b hb s ∗ Owes d L O ∗ Transfers.MayWaits (thr d L) (default : HIx 1) O)
    ⊢ iprop((iprop(Inv d L b (elts x ⟨rowNo L r, rowNo_lt L r⟩) 0 ∗ xRowPts d L x r ∗ Idle d L s ∗ Owes d L O)
          -∗ wp frame (wpE (defs₀ (F := F)) Variants.none (thr d L) none) Set.univ (kk ⟨⟩) Q)
        -∗ wp frame (wpE (defs₀ (F := F)) Variants.none (thr d L) none) Set.univ (waitFetch L r b hb s >>= kk) Q) := by
  iintro ⟨Hf, ⟨%W, HO⟩, Hmw⟩ Hk
  iapply (Transfers.wp_waitLocalO countersEmb Variants.none (thr d L) none (default : HIx 1) (rfl : (slabV b hb).view.dmaCredit = _)) $$ [Hf HO Hmw]
  · isplitl [Hf]; · iexact Hf
    isplitl [HO]; · iexact HO
    iapply (Transfers.MayWaits.elim (SemLoc.dma s.sem)) $$ Hmw
  iintro ⟨⟨Hs, Hx⟩, Hv, HO⟩
  iapply Hk
  isplitl [Hs]; · iexact Hs
  isplitl [Hx]; · iexact Hx
  isplitl [Hv]; · iexact Hv
  iexists _; iexact HO

/-- The wait for a copy out gives back the slab, and the result's row scanned. -/
theorem wp_waitOut {α : Type} (kk : PUnit → TileProg F L α) (Q : α → sProp 𝕄) : iprop(CopyingOut d L x r b s ∗ Owes d L O ∗ Transfers.MayWaits (thr d L) (default : HIx 1) O)
    ⊢ iprop((iprop(oRowPts d L r (scanRows x) ∗ Slab d L b ∗ Idle d L s ∗ Owes d L O)
          -∗ wp frame (wpE (defs₀ (F := F)) Variants.none (thr d L) none) Set.univ (kk ⟨⟩) Q)
        -∗ wp frame (wpE (defs₀ (F := F)) Variants.none (thr d L) none) Set.univ (waitOut L r b hb s >>= kk) Q) := by
  iintro ⟨Hf, ⟨%W, HO⟩, Hmw⟩ Hk
  iapply (Transfers.wp_waitLocalO countersEmb Variants.none (thr d L) none (default : HIx 1) (rfl : (oRow L r).view.dmaCredit = _)) $$ [Hf HO Hmw]
  · isplitl [Hf]; · iexact Hf
    isplitl [HO]; · iexact HO
    iapply (Transfers.MayWaits.elim (SemLoc.dma s.sem)) $$ Hmw
  iintro ⟨⟨Ho, Hs⟩, Hv, HO⟩
  iapply Hk
  isplitl [Ho]; · iexact Ho
  isplitl [Hs]; · iexact Hs
  isplitl [Hv]; · iexact Hv
  iexists _; iexact HO

/-- The first loop scans its slab: `wp_scan` at the loop's own places. -/
theorem wp_loop1 {α : Type} (kk : FVec F S16 .f32 → TileProg F L α) (Q : α → sProp 𝕄) (g : ℕ → F .f32) :
    (Inv d L 0 g 0 : sProp 𝕄) ⊢ iprop((∀ c, Inv d L 0 g 32768 -∗ wp frame (wpE (defs₀ (F := F)) Variants.none (thr d L) none) Set.univ (kk c) Q)
      -∗ wp frame (wpE (defs₀ (F := F)) Variants.none (thr d L) none) Set.univ (loop1 L >>= kk) Q) :=
  wp_scan d L 0 g k0_t1_loop k0_t1_ok rfl _ _ (fun k j => k0_off2_inb k j) (fun k c => body1_eq ..) (fun k j => k0_off2_eq k j) _ rfl kk Q
/-- The second loop, likewise. -/
theorem wp_loop2 {α : Type} (kk : FVec F S16 .f32 → TileProg F L α) (Q : α → sProp 𝕄) (g : ℕ → F .f32) :
    (Inv d L 1 g 0 : sProp 𝕄) ⊢ iprop((∀ c, Inv d L 1 g 32768 -∗ wp frame (wpE (defs₀ (F := F)) Variants.none (thr d L) none) Set.univ (kk c) Q)
      -∗ wp frame (wpE (defs₀ (F := F)) Variants.none (thr d L) none) Set.univ (loop2 L >>= kk) Q) :=
  wp_scan d L 1 g k0_t2_loop k0_t2_ok rfl _ _ (fun k j => k0_off3_inb k j) (fun k c => body2_eq ..) (fun k j => k0_off3_eq k j) _ rfl kk Q
/-- The third loop, likewise. -/
theorem wp_loop3 {α : Type} (kk : FVec F S16 .f32 → TileProg F L α) (Q : α → sProp 𝕄) (g : ℕ → F .f32) :
    (Inv d L 0 g 0 : sProp 𝕄) ⊢ iprop((∀ c, Inv d L 0 g 32768 -∗ wp frame (wpE (defs₀ (F := F)) Variants.none (thr d L) none) Set.univ (kk c) Q)
      -∗ wp frame (wpE (defs₀ (F := F)) Variants.none (thr d L) none) Set.univ (loop3 L >>= kk) Q) :=
  wp_scan d L 0 g k0_t3_loop k0_t3_ok rfl _ _ (fun k j => k0_off4_inb k j) (fun k c => body3_eq ..) (fun k j => k0_off4_eq k j) _ rfl kk Q
/-- The fourth loop, likewise. -/
theorem wp_loop4 {α : Type} (kk : FVec F S16 .f32 → TileProg F L α) (Q : α → sProp 𝕄) (g : ℕ → F .f32) :
    (Inv d L 1 g 0 : sProp 𝕄) ⊢ iprop((∀ c, Inv d L 1 g 32768 -∗ wp frame (wpE (defs₀ (F := F)) Variants.none (thr d L) none) Set.univ (kk c) Q)
      -∗ wp frame (wpE (defs₀ (F := F)) Variants.none (thr d L) none) Set.univ (loop4 L >>= kk) Q) :=
  wp_scan d L 1 g k0_t4_loop k0_t4_ok rfl _ _ (fun k j => k0_off5_inb k j) (fun k c => body4_eq ..) (fun k j => k0_off5_eq k j) _ rfl kk Q

/-- The task's run: from its rows of the array and of the result, its two slabs and its semaphores idle, it ends with the result's rows
    at the array's scanned and everything else back. -/
theorem tile_run :
    iprop(Transfers.MayWaits (thr d L) (default : HIx 1) O
        ∗ (xRowPts d L x 0 ∗ xRowPts d L x 1 ∗ xRowPts d L x 2 ∗ xRowPts d L x 3)
        ∗ ((∃ f, oRowPts d L 0 f) ∗ (∃ f, oRowPts d L 1 f) ∗ (∃ f, oRowPts d L 2 f) ∗ (∃ f, oRowPts d L 3 f))
        ∗ (Slab d L 0 ∗ Slab d L 1) ∗ (Idle d L cc0_scratch1 ∗ Idle d L cc0_scratch2 ∗ Idle d L cc0_scratch3 ∗ Idle d L cc0_scratch4) ∗ Owes d L O)
      ⊢ wp frame (wpE (defs₀ (F := F)) Variants.none (thr d L) none) Set.univ (tile L) fun _ => iprop(
        (xRowPts d L x 0 ∗ xRowPts d L x 1 ∗ xRowPts d L x 2 ∗ xRowPts d L x 3)
        ∗ (oRowPts d L 0 (scanRows x) ∗ oRowPts d L 1 (scanRows x) ∗ oRowPts d L 2 (scanRows x) ∗ oRowPts d L 3 (scanRows x))
        ∗ (Slab d L 0 ∗ Slab d L 1) ∗ (Idle d L cc0_scratch1 ∗ Idle d L cc0_scratch2 ∗ Idle d L cc0_scratch3 ∗ Idle d L cc0_scratch4) ∗ Owes d L O) := by
  unfold tile
  iintro ⟨#Hmw, ⟨Hx0, Hx1, Hx2, Hx3⟩, ⟨Ho0, Ho1, Ho2, Ho3⟩, ⟨Hs0, Hs1⟩, ⟨Hv1, Hv2, Hv3, Hv4⟩, HO⟩
  iapply (wp_fetch d L x 0 0 inb_S2x32768_S1x32768_0_0 cc0_scratch1) $$ [Hx0 Hs0 Hv1]
  · isplitl [Hx0]; · iexact Hx0
    isplitl [Hs0]; · iexact Hs0
    iexact Hv1
  iintro Hf1
  iapply (wp_fetch d L x 1 1 inb_S2x32768_S1x32768_1_0 cc0_scratch2) $$ [Hx1 Hs1 Hv2]
  · isplitl [Hx1]; · iexact Hx1
    isplitl [Hs1]; · iexact Hs1
    iexact Hv2
  iintro Hf2
  iapply (wp_waitFetch d L x 0 0 inb_S2x32768_S1x32768_0_0 cc0_scratch1 O) $$ [Hf1 HO]
  · isplitl [Hf1]; · iexact Hf1
    isplitl [HO]; · iexact HO
    iexact Hmw
  iintro ⟨Hs0, Hx0, Hv1, HO⟩
  iapply (wp_loop1 d L) $$ Hs0
  iintro %_ Hs0
  iapply (wp_copyOut d L x 0 0 inb_S2x32768_S1x32768_0_0 cc0_scratch3 (by decide)) $$ [Hs0 Ho0 Hv3]
  · isplitl [Hs0]; · iexact Hs0
    isplitl [Ho0]; · iexact Ho0
    iexact Hv3
  iintro Hf3
  iapply (wp_waitOut d L x 0 0 inb_S2x32768_S1x32768_0_0 cc0_scratch3 O) $$ [Hf3 HO]
  · isplitl [Hf3]; · iexact Hf3
    isplitl [HO]; · iexact HO
    iexact Hmw
  iintro ⟨Ho0, Hs0, Hv3, HO⟩
  iapply (wp_fetch d L x 2 0 inb_S2x32768_S1x32768_0_0 cc0_scratch1) $$ [Hx2 Hs0 Hv1]
  · isplitl [Hx2]; · iexact Hx2
    isplitl [Hs0]; · iexact Hs0
    iexact Hv1
  iintro Hf1
  iapply (wp_waitFetch d L x 1 1 inb_S2x32768_S1x32768_1_0 cc0_scratch2 O) $$ [Hf2 HO]
  · isplitl [Hf2]; · iexact Hf2
    isplitl [HO]; · iexact HO
    iexact Hmw
  iintro ⟨Hs1, Hx1, Hv2, HO⟩
  iapply (wp_loop2 d L) $$ Hs1
  iintro %_ Hs1
  iapply (wp_copyOut d L x 1 1 inb_S2x32768_S1x32768_1_0 cc0_scratch4 (by decide)) $$ [Hs1 Ho1 Hv4]
  · isplitl [Hs1]; · iexact Hs1
    isplitl [Ho1]; · iexact Ho1
    iexact Hv4
  iintro Hf4
  iapply (wp_waitOut d L x 1 1 inb_S2x32768_S1x32768_1_0 cc0_scratch4 O) $$ [Hf4 HO]
  · isplitl [Hf4]; · iexact Hf4
    isplitl [HO]; · iexact HO
    iexact Hmw
  iintro ⟨Ho1, Hs1, Hv4, HO⟩
  iapply (wp_fetch d L x 3 1 inb_S2x32768_S1x32768_1_0 cc0_scratch2) $$ [Hx3 Hs1 Hv2]
  · isplitl [Hx3]; · iexact Hx3
    isplitl [Hs1]; · iexact Hs1
    iexact Hv2
  iintro Hf2
  iapply (wp_waitFetch d L x 2 0 inb_S2x32768_S1x32768_0_0 cc0_scratch1 O) $$ [Hf1 HO]
  · isplitl [Hf1]; · iexact Hf1
    isplitl [HO]; · iexact HO
    iexact Hmw
  iintro ⟨Hs0, Hx2, Hv1, HO⟩
  iapply (wp_loop3 d L) $$ Hs0
  iintro %_ Hs0
  iapply (wp_copyOut d L x 2 0 inb_S2x32768_S1x32768_0_0 cc0_scratch3 (by decide)) $$ [Hs0 Ho2 Hv3]
  · isplitl [Hs0]; · iexact Hs0
    isplitl [Ho2]; · iexact Ho2
    iexact Hv3
  iintro Hf3
  iapply (wp_waitFetch d L x 3 1 inb_S2x32768_S1x32768_1_0 cc0_scratch2 O) $$ [Hf2 HO]
  · isplitl [Hf2]; · iexact Hf2
    isplitl [HO]; · iexact HO
    iexact Hmw
  iintro ⟨Hs1, Hx3, Hv2, HO⟩
  iapply (wp_loop4 d L) $$ Hs1
  iintro %_ Hs1
  iapply (wp_copyOut d L x 3 1 inb_S2x32768_S1x32768_1_0 cc0_scratch4 (by decide)) $$ [Hs1 Ho3 Hv4]
  · isplitl [Hs1]; · iexact Hs1
    isplitl [Ho3]; · iexact Ho3
    iexact Hv4
  iintro Hf4
  iapply (wp_waitOut d L x 2 0 inb_S2x32768_S1x32768_0_0 cc0_scratch3 O) $$ [Hf3 HO]
  · isplitl [Hf3]; · iexact Hf3
    isplitl [HO]; · iexact HO
    iexact Hmw
  iintro ⟨Ho2, Hs0, Hv3, HO⟩
  iapply (wp_waitOut d L x 3 1 inb_S2x32768_S1x32768_1_0 cc0_scratch4 O) $$ [Hf4 HO]
  · isplitl [Hf4]; · iexact Hf4
    isplitl [HO]; · iexact HO
    iexact Hmw
  iintro ⟨Ho3, Hs1, Hv4, HO⟩
  sl_step
  isplitl [Hx0 Hx1 Hx2 Hx3]
  · isplitl [Hx0]; · iexact Hx0
    isplitl [Hx1]; · iexact Hx1
    isplitl [Hx2]; · iexact Hx2
    iexact Hx3
  isplitl [Ho0 Ho1 Ho2 Ho3]
  · isplitl [Ho0]; · iexact Ho0
    isplitl [Ho1]; · iexact Ho1
    isplitl [Ho2]; · iexact Ho2
    iexact Ho3
  isplitl [Hs0 Hs1]
  · isplitl [Hs0]; · iexact Hs0
    iexact Hs1
  isplitr [HO]
  · isplitl [Hv1]; · iexact Hv1
    isplitl [Hv2]; · iexact Hv2
    isplitl [Hv3]; · iexact Hv3
    iexact Hv4
  iexact HO

end Run

end Cert.ScKernel.Run

end
-- ==== Proof.ScLaunch.lean ====
/-
  THE SPARSECORE CALL. Its thirty-two tasks take four rows each of the array and of the result, row `8s + 4c + r` to subcore `s` of
  core `c`, and bring the result's rows back at the array's rows scanned (`tile_run`): together the whole result at `scanRows` of the
  array (`run_main`), the array unchanged and every semaphore at zero.
-/
module

public import proofs.«01_k».proof.Proof.ScTile
public import proofs.«01_k».proof.Defs
public import Idealize.ShloMosaic.Lib.StableHlo.Run

@[expose] public section

noncomputable section

namespace Cert.ScKernel.Run

open Cert.ScKernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The program as the launch theorem takes it -/

/-- The labels the call's configuration is over. -/
abbrev ΛP : Labels := Pipeline.Sig Λ₀ (Fin 0) fun p => (pcfgs (F := F) p).Adm
abbrev K : SparseCore.Cfg τ sig (ΛP (F := F)) 1 := sc (F := F)
/-- The call runs on two cores, -/
theorem nCore_zero : (K (F := F)).nCore 0 = 2 := rfl
/-- and on sixteen subcores of each. -/
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct, and none of them is a task's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds in the resource algebra. -/
abbrev EH : Emb UH (MT nD τ sig (HIx 1) (Elt F) ℕ UU ℕ) := embL

variable [FloatOps F] (m : (ℓ : Loc nD τ sig) → Buf (Elt F) ℓ) (ρ : Dev nD → PrngReg)

/-! ## What the call's handshakes carry -/

/-- The coordinates of subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The row a task's `r`th is. -/
def rowOf (c : Fin 2) (i : Fin 16) (r : Fin 4) : ℕ := 8 * i.val + 4 * c.val + r.val

/-- A task's rows of the array, and of the result. -/
abbrev xTask (d : Dev nD) (c : Fin 2) (i : Fin 16) (f : Buf (Elt F) (xLoc d)) : sProp 𝕄 :=
  bigSep Finset.univ fun r : Fin 4 => xLoc d ↦[rowSet (rowOf c i r)]{fullShare} f
abbrev oTask (d : Dev nD) (c : Fin 2) (i : Fin 16) (f : Buf (Elt F) (oLoc d)) : sProp 𝕄 :=
  bigSep Finset.univ fun r : Fin 4 => oLoc d ↦[rowSet (rowOf c i r)]{fullShare} f

/-- What a task takes, and what it brings. -/
abbrev goTask (d : Dev nD) (c : Fin 2) (i : Fin 16) : sProp 𝕄 := iprop(xTask d c i (m (xLoc d)) ∗ oTask d c i (m (oLoc d)))
abbrev tdTask (d : Dev nD) (c : Fin 2) (i : Fin 16) : sProp 𝕄 := iprop(xTask d c i (m (xLoc d)) ∗ oTask d c i (scanRows (m (xLoc d))))

/-- A core takes and brings what its tasks do. -/
def P : (K (F := F)).Pay (nD := nD) (Val := Elt F) (Name := ℕ) (U := UU) where
  st := fun q d c => match q with | 0 => bigSep Finset.univ fun i : Fin 16 => goTask m d (Fin.cast nCore_zero c) i
  dn := fun q d c => match q with | 0 => bigSep Finset.univ fun i : Fin 16 => tdTask m d (Fin.cast nCore_zero c) i
  go := fun q d c i => match q with | 0 => goTask m d (Fin.cast nCore_zero c) (Fin.cast nSub_zero i)
  td := fun q d c i => match q with | 0 => tdTask m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goTask m d (Fin.cast nCore_zero c) i))
  dn q d c := match q with
    | 0 => (inferInstance : BI.Storable (upEmb : UEmb _ 𝕄) (bigSep Finset.univ fun i : Fin 16 => tdTask m d (Fin.cast nCore_zero c) i))
  go q d c i := match q with
    | 0 => (inferInstance : BI.Storable (upEmb : UEmb _ 𝕄) (goTask m d (Fin.cast nCore_zero c) (Fin.cast nSub_zero i)))
  td q d c i := match q with
    | 0 => (inferInstance : BI.Storable (upEmb : UEmb _ 𝕄) (tdTask m d (Fin.cast nCore_zero c) (Fin.cast nSub_zero i)))

/-! ## Families of two and of four -/

/-- What two hold apart. -/
theorem bigSep_two (Φ : Fin 2 → sProp 𝕄) : bigSep Finset.univ Φ = iprop(Φ 0 ∗ Φ 1) :=
  bigSep_univ_eq_bigSepL [0, 1] (by decide) (by decide) Φ
/-- What four hold apart. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The task -/

section Tile

variable (d : Dev nD) (L : grid0.Coords)

/-- The scratch's two slabs do not meet, -/
theorem slabs_disjoint : ∀ b ∈ (Finset.univ : Finset (Fin 2)), ∀ b' ∈ (Finset.univ : Finset (Fin 2)), b ≠ b' → Disjoint (slab b.val) (slab b'.val) :=
  fun b _ b' _ h => Finset.disjoint_left.mpr fun i hi hi' =>
    h (Fin.ext ((Finset.mem_filter.mp hi).2.symm.trans (Finset.mem_filter.mp hi').2))
/-- and are the whole of it. -/
theorem slabs_cover : (Finset.univ : Finset (Fin 2)).biUnion (fun b => slab b.val) = Finset.univ :=
  Finset.eq_univ_iff_forall.mpr fun i => Finset.mem_biUnion.mpr ⟨i 0, Finset.mem_univ _, Finset.mem_filter.mpr ⟨Finset.mem_univ _, rfl⟩⟩

/-- The scratch whole is its two slabs, -/
theorem slabs_split (f : Buf (Elt F) (sLoc d L)) : (sLoc d L ↦{fullShare} f : sProp 𝕄) ⊢ iprop(Slab d L 0 ∗ Slab d L 1) := by
  rw [← slabs_cover, pointsTo_biUnion Finset.univ (ℓ := sLoc d L) (fun b : Fin 2 => slab b.val) slabs_disjoint, bigSep_two]
  iintro ⟨H0, H1⟩
  isplitl [H0]
  · iexists f; iexact H0
  · iexists f; iexact H1
/-- and the two make it again. -/
theorem slabs_join : (iprop(Slab d L 0 ∗ Slab d L 1) : sProp 𝕄) ⊢ iprop(∃ f : Buf (Elt F) (sLoc d L), sLoc d L ↦{fullShare} f) := by
  iintro ⟨⟨%f0, H0⟩, ⟨%f1, H1⟩⟩
  ihave H := (pointsTo_biUnion_join (ℓ := sLoc d L) (q := fullShare) (Val := Elt F) Finset.univ (fun b : Fin 2 => slab b.val)
    (fun b => if b = 0 then f0 else f1) f0 slabs_disjoint) $$ [H0 H1]
  · rw [bigSep_two]
    isplitl [H0]; · iexact H0
    iexact H1
  icases H with ⟨%g, -, Hg⟩
  rw [slabs_cover]
  iexists g; iexact Hg

abbrev cell (s : DmaSems sig S_) : GSem nD τ sig := (V d (cV L) (jV L), .dma s.sem)

/-- The subcore's own semaphores are the kernel's four and the rest; -/
theorem ownSems0_V :
    (ownSems0 (V d (cV L) (jV L)) : sProp 𝕄)
      = iprop(Idle d L cc0_scratch1 ∗ Idle d L cc0_scratch2 ∗ Idle d L cc0_scratch3 ∗ Idle d L cc0_scratch4
          ∗ bigSep (((((ownCells (V d (cV L) (jV L))).erase (cell d L cc0_scratch1)).erase (cell d L cc0_scratch2)).erase (cell d L cc0_scratch3)).erase
              (cell d L cc0_scratch4)) fun g => semVal g 0) := by
  unfold SparseCore.Cfg.ownSems0
  have hm : ∀ s : DmaSems sig S_, (SemLoc.dma s.sem : SemLoc sig).isScoped .scVector = true → cell d L s ∈ ownCells (V d (cV L) (jV L)) :=
    fun s h => mem_ownCells.mpr ⟨rfl, h⟩
  have hne : ∀ s s' : DmaSems sig S_, (SemLoc.dma s.sem : SemLoc sig) ≠ .dma s'.sem → cell d L s ≠ cell d L s' := fun s s' h e => h (Prod.mk.inj e).2
  rw [SparseCore.bigSep_erase' (hm cc0_scratch1 (by decide)),
    SparseCore.bigSep_erase' (Finset.mem_erase.mpr ⟨hne cc0_scratch2 cc0_scratch1 (by decide), hm cc0_scratch2 (by decide)⟩),
    SparseCore.bigSep_erase' (Finset.mem_erase.mpr ⟨hne cc0_scratch3 cc0_scratch2 (by decide), Finset.mem_erase.mpr
      ⟨hne cc0_scratch3 cc0_scratch1 (by decide), hm cc0_scratch3 (by decide)⟩⟩),
    SparseCore.bigSep_erase' (Finset.mem_erase.mpr ⟨hne cc0_scratch4 cc0_scratch3 (by decide), Finset.mem_erase.mpr
      ⟨hne cc0_scratch4 cc0_scratch2 (by decide), Finset.mem_erase.mpr ⟨hne cc0_scratch4 cc0_scratch1 (by decide), hm cc0_scratch4 (by decide)⟩⟩⟩)]

/-- its own buffers are the scratch and the rest. -/
theorem ownBufs_V :
    (ownBufs (V d (cV L) (jV L)) : sProp 𝕄)
      = iprop((∃ f : Buf (Elt F) (sLoc d L), sLoc d L ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The grid's first coordinate is the core, -/
theorem bound_zero : grid0.bound 0 = 2 := rfl
/-- its second the subcore. -/
theorem bound_one : grid0.bound 1 = 16 := rfl

/-- A task's rows, in the task's own numbering of them. -/
theorem xTask_eq (c : Fin (grid0.bound 0)) (i : Fin (grid0.bound 1)) (f : Buf (Elt F) (xLoc d)) :
    (xTask d (Fin.cast bound_zero c) (Fin.cast bound_one i) f : sProp 𝕄) = iprop(xRowPts d (coordsV c i) f 0 ∗ xRowPts d (coordsV c i) f 1 ∗ xRowPts d (coordsV c i) f 2 ∗ xRowPts d (coordsV c i) f 3) :=
  bigSep_four _
/-- A task's rows of the result, one by one. -/
theorem oTask_eq (c : Fin (grid0.bound 0)) (i : Fin (grid0.bound 1)) (f : Buf (Elt F) (oLoc d)) :
    (oTask d (Fin.cast bound_zero c) (Fin.cast bound_one i) f : sProp 𝕄) = iprop(oRowPts d (coordsV c i) 0 f ∗ oRowPts d (coordsV c i) 1 f ∗ oRowPts d (coordsV c i) 2 f ∗ oRowPts d (coordsV c i) 3 f) :=
  bigSep_four _

/-- The kernel on subcore `i` of core `c`, from what the call hands it to what it brings. -/
theorem tile_body (hF : (K (F := F)).Facts) (c : Fin (grid0.bound 0)) (i : Fin (grid0.bound 1)) (O : CellTallies nD τ sig (HIx 1)) (W : Waits sig (HIx 1))
    (hO : ∀ g, O g none = 0) :
    iprop(levAts (K (F := F)).L (K (F := F)).lev ∗ emp ∗ goTask m d (Fin.cast bound_zero c) (Fin.cast bound_one i)
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc0_k (coordsV c i) xV (Memref.isWhole_whole _) oV (Memref.isWhole_whole _) sV (Memref.isWhole_whole _)
            cc0_scratch1 cc0_scratch2 cc0_scratch3 cc0_scratch4)
          fun _ => iprop(tdTask m d (Fin.cast bound_zero c) (Fin.cast bound_one i) ∗ scopedBufs (thr d (coordsV c i)) ∗ scopedSems0 (thr d (coordsV c i))
            ∗ ∃ W', ⌜∀ p ∈ W', p ∈ W ∨ p.2 = none ∨ p.2 = some (0 : Fin 1)⌝ ∗ owes (thr d (coordsV c i)) O W') := by
  unfold goTask tdTask
  rw [kernel_eq, xTask_eq, oTask_eq, oTask_eq, (K (F := F)).scopedBufs_V hF d (cV (coordsV c i)) (jV (coordsV c i)),
    SparseCore.Cfg.scopedSems0_V (Val := Elt F) d (cV (coordsV c i)) (jV (coordsV c i)), ownSems0_V, ownBufs_V]
  iintro ⟨#Hlv, -, ⟨Hx, ⟨Ho0, Ho1, Ho2, Ho3⟩⟩, ⟨⟨%fs, Hs⟩, Hbufs⟩, ⟨Hv1, Hv2, Hv3, Hv4, Hsems⟩, HO⟩
  ihave Hmw := (show levAts (K (F := F)).L (K (F := F)).lev ⊢ Transfers.MayWaits (thr d (coordsV c i)) (default : HIx 1) O from
    (K (F := F)).mayWaits_none (thr := thr d (coordsV c i)) hO) $$ Hlv
  ihave Hs' := (slabs_split d (coordsV c i) fs) $$ Hs
  ihave Hw := (tile_run d (coordsV c i) (m (xLoc d)) O) $$ [Hmw Hx Ho0 Ho1 Ho2 Ho3 Hs' Hv1 Hv2 Hv3 Hv4 HO]
  · isplitl [Hmw]; · iexact Hmw
    isplitl [Hx]; · iexact Hx
    isplitl [Ho0 Ho1 Ho2 Ho3]
    · isplitl [Ho0]; · iexists _; iexact Ho0
      isplitl [Ho1]; · iexists _; iexact Ho1
      isplitl [Ho2]; · iexists _; iexact Ho2
      iexists _; iexact Ho3
    isplitl [Hs']; · iexact Hs'
    isplitl [Hv1 Hv2 Hv3 Hv4]
    · isplitl [Hv1]; · iexact Hv1
      isplitl [Hv2]; · iexact Hv2
      isplitl [Hv3]; · iexact Hv3
      iexact Hv4
    iexists W; iexact HO
  iapply (wp_wand frame (wpE (defs₀ (F := F)) 𝒱₀ (thr d (coordsV c i)) none) Set.univ) $$ Hw
  iintro %_ ⟨Hx, Ho, Hs, ⟨Hv1, Hv2, Hv3, Hv4⟩, ⟨%W', HO⟩⟩
  isplitl [Hx Ho]
  · isplitl [Hx]; · iexact Hx
    iexact Ho
  isplitl [Hs Hbufs]
  · isplitl [Hs]; · iapply (slabs_join d (coordsV c i)); iexact Hs
    iexact Hbufs
  isplitl [Hv1 Hv2 Hv3 Hv4 Hsems]
  · isplitl [Hv1]; · iexact Hv1
    isplitl [Hv2]; · iexact Hv2
    isplitl [Hv3]; · iexact Hv3
    isplitl [Hv4]; · iexact Hv4
    iexact Hsems
  iexists W'
  isplitr
  · ipureintro
    intro p _
    rcases p.2 with _ | q
    · exact .inr (.inl rfl)
    · exact .inr (.inr (congrArg some (Subsingleton.elim q 0)))
  · iexact HO

/-- What a vector subcore runs when its task is handed to it. -/
theorem defs₀_vector (c : Fin τ.nSC) (s : Fin τ.nSub) :
    defs₀ (F := F) (.scVector c s) 0 ()
      = SparseCore.onTile hcore0 hsub0 (fun c s => cc0_k (coordsV c s) xV (Memref.isWhole_whole _) oV (Memref.isWhole_whole _) sV (Memref.isWhole_whole _)
          cc0_scratch1 cc0_scratch2 cc0_scratch3 cc0_scratch4) ⟨⟩ c s := rfl

/-- Each task does what its launch asks of it. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d hF ⟨_, hci.1⟩ ⟨_, hci.2⟩ O W hO

end Tile

/-! ## The rows split and join -/

abbrev rowAt (p : Fin 2 × Fin 16 × Fin 4) : Finset S128x32768.Idx := rowSet (rowOf p.1 p.2.1 p.2.2)

/-- No two tasks' rows meet, -/
theorem rows_disjoint : ∀ p ∈ (Finset.univ : Finset (Fin 2 × Fin 16 × Fin 4)), ∀ p' ∈ (Finset.univ : Finset (Fin 2 × Fin 16 × Fin 4)), p ≠ p' → Disjoint (rowAt p) (rowAt p') := by
  rintro ⟨c, i, r⟩ _ ⟨c', i', r'⟩ _ h
  refine Finset.disjoint_left.mpr fun a ha ha' => h ?_
  have e : rowOf c i r = rowOf c' i' r' := (Finset.mem_filter.mp ha).2.symm.trans (Finset.mem_filter.mp ha').2
  unfold rowOf at e
  have := c.isLt; have := c'.isLt; have := r.isLt; have := r'.isLt
  rw [show c = c' from Fin.ext (by omega), show i = i' from Fin.ext (by omega), show r = r' from Fin.ext (by omega)]
/-- and every row is some task's. -/
theorem rows_cover : (Finset.univ : Finset (Fin 2 × Fin 16 × Fin 4)).biUnion rowAt = Finset.univ := by
  refine Finset.eq_univ_iff_forall.mpr fun a => Finset.mem_biUnion.mpr ?_
  have h : (a 0).val < 128 := (a 0).isLt
  refine ⟨(⟨(a 0).val % 8 / 4, by omega⟩, ⟨(a 0).val / 8, by omega⟩, ⟨(a 0).val % 4, by omega⟩), Finset.mem_univ _, Finset.mem_filter.mpr ⟨Finset.mem_univ _, ?_⟩⟩
  show (a 0).val = 8 * ((a 0).val / 8) + 4 * ((a 0).val % 8 / 4) + (a 0).val % 4
  omega

/-- The array whole is every task's rows of it; the result's likewise. -/
theorem x_rows (d : Dev nD) (f : Buf (Elt F) (xLoc d)) :
    (xLoc d ↦{fullShare} f : sProp 𝕄) = bigSep Finset.univ fun c : Fin 2 => bigSep Finset.univ fun i : Fin 16 => xTask d c i f := by
  rw [← rows_cover, pointsTo_biUnion Finset.univ (ℓ := xLoc d) rowAt rows_disjoint, bigSep_univ_prod]
  exact bigSep_congr fun c _ => bigSep_univ_prod _
/-- The result is its rows, task by task. -/
theorem o_rows (d : Dev nD) (f : Buf (Elt F) (oLoc d)) :
    (oLoc d ↦{fullShare} f : sProp 𝕄) = bigSep Finset.univ fun c : Fin 2 => bigSep Finset.univ fun i : Fin 16 => oTask d c i f := by
  rw [← rows_cover, pointsTo_biUnion Finset.univ (ℓ := oLoc d) rowAt rows_disjoint, bigSep_univ_prod]
  exact bigSep_congr fun c _ => bigSep_univ_prod _

/-- A core's operands are its tasks' and its results theirs. -/
theorem vecSplit : (K (F := F)).VecSplit' (P m) 0 := by
  intro d c
  show (bigSep Finset.univ fun i : Fin 16 => goTask m d (Fin.cast nCore_zero c) i) ⊢ |={Set.univ}=> iprop(
      (bigSep Finset.univ fun i : Fin 16 => goTask m d (Fin.cast nCore_zero c) i)
      ∗ ((bigSep Finset.univ fun i : Fin 16 => tdTask m d (Fin.cast nCore_zero c) i) -∗ bigSep Finset.univ fun i : Fin 16 => tdTask m d (Fin.cast nCore_zero c) i))
  iintro H; imodintro
  isplitl [H]; · iexact H
  iintro H; iexact H

/-! ## The launch element -/

/-- The resources the launch starts from: the handshakes' counters, and nothing else. -/
def u₀ : UU := (initOf (K (F := F)).hsCells (K (F := F)).hsToks, 1)

/-- Nothing, held many times, is nothing. -/
theorem bigSep_emp' {I : Type} (s : Finset I) : (bigSep s fun _ => iprop(emp)) = (iprop(emp) : sProp 𝕄) := bigSep_emp_const s

/-- They give every handshake its start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

/-- What the TensorCore's thread holds at the start: the array and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- The call takes the array and the result whole, -/
theorem st0_eq (d : Dev nD) :
    (bigSep Finset.univ fun c : Fin ((K (F := F)).nCore 0) => (P m).st 0 d c) = (iprop((xLoc d ↦{fullShare} m (xLoc d)) ∗ oLoc d ↦{fullShare} m (oLoc d)) : sProp 𝕄) := by
  rw [x_rows, o_rows, ← bigSep_sep']
  exact bigSep_congr (s := (Finset.univ : Finset (Fin 2))) fun c _ =>
    bigSep_sep' (Finset.univ : Finset (Fin 16)) (fun i => xTask d c i (m (xLoc d))) (fun i => oTask d c i (m (oLoc d)))
/-- and brings them back, the result at the array's rows scanned. -/
theorem dn0_eq (d : Dev nD) :
    (bigSep Finset.univ fun c : Fin ((K (F := F)).nCore 0) => (P m).dn 0 d c)
      = (iprop((xLoc d ↦{fullShare} m (xLoc d)) ∗ oLoc d ↦{fullShare} scanRows (m (xLoc d))) : sProp 𝕄) := by
  rw [x_rows, o_rows, ← bigSep_sep']
  exact bigSep_congr (s := (Finset.univ : Finset (Fin 2))) fun c _ =>
    bigSep_sep' (Finset.univ : Finset (Fin 16)) (fun i => xTask d c i (m (xLoc d))) (fun i => oTask d c i (scanRows (m (xLoc d))))

abbrev FIN (d : Dev nD) : sProp 𝕄 := iprop((xLoc d ↦{fullShare} m (xLoc d)) ∗ oLoc d ↦{fullShare} scanRows (m (xLoc d)))

/-- The TensorCore's thread hands the array and the result out, and has them back with the result scanned. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What a device's memory ends at. -/
def fq (d : Dev nD) (s' : Phys nD τ sig (Elt F)) : Prop := s'.mem.mem (xLoc d) = m (xLoc d) ∧ s'.mem.mem (oLoc d) = scanRows (m (xLoc d))

/-- What is held at the end says what memory ends at. -/
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := scanRows (m (xLoc d)))) $$ [HSI Ho]
  · isplitl [HSI] <;> iassumption
  icases H with %ho
  ipureintro; exact ⟨funext fun i => hx i (Finset.mem_univ i), funext fun i => ho i (Finset.mem_univ i)⟩

/-! ## The run -/

/-- What the program ends at: the array as it was, the result at its rows scanned, every semaphore at zero. -/
def QC : PUnit × MemSt nD τ sig (Elt F) → Prop := fun r =>
  (∀ c : Dev nD, r.2.mem (xLoc c) = m (xLoc c) ∧ r.2.mem (oLoc c) = scanRows (m (xLoc c))) ∧ r.2.sem = fun _ => 0

/-- The program runs, its result at its argument's rows scanned, its argument unchanged and every semaphore at zero. -/
theorem run_main [∀ e, Nonempty (Elt F e)] : θ_run (Cert.ScKernel.defs (F := F)) (Cert.ScKernel.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.ScKernel.Run

end
-- ==== Proof.ScValue.lean ====
/-
  THE SPARSECORE KERNEL'S RESULT on the extended reals. A vector's running sum, the tree of the vectors' sums and the carry from
  group to group each add the row's elements, so the scanned row at column `n` is the sum of the elements up to `n` (`scan_eq`),
  and the array's rows scanned are its rows' prefix sums (`scanRows_eq`).
-/
module

public import proofs.«01_k».proof.Proof.ScLaunch
public import proofs.«01_k».proof.Proof.Prefix
public import Idealize.ShloMosaic.PureOps.Ideal.Laws
public import Idealize.ShloMosaic.Lib.WordCmp

@[expose] public section

noncomputable section

namespace Cert.ScKernel.Run

open Cert.ScKernel.Gen
open Idealize.ShloMosaic Idealize.ShloMosaic.ValueIdx

/-! ## A vector -/

/-- A sum of vectors, lane by lane. -/
theorem add_at (a b : FVec Ideal S16 .f32) (i : S16.Idx) : addf a b i = (a i + b i : EReal) := rfl

/-- The zeros' lanes are zero. -/
theorem zeros_at (i : S16.Idx) : (zeros : FVec Ideal S16 .f32) i = (0 : EReal) := Ideal.ofBits_zero_f32

/-- Lane `k` in every lane reads lane `k`. -/
theorem lane_at (v : FVec Ideal S16 .f32) (k : Fin 16) (h : S16.Slices ![k.val] S1) (i : S16.Idx) : lane v k.val h i = v (ix1 k) := by
  unfold lane extractAt
  rw [broadcast_apply]
  refine extractStridedSlice_apply _ _ _ _ _ fun a => ?_
  match a with
  | ⟨0, _⟩ => exact (Nat.add_zero _).symm

/-- Mask `k` is set in the lanes from `k` on. -/
theorem mask_at (k l : Fin 16) : mask (BitVec.ofNat 32 k.val) (ix1 l) = if k.val ≤ l.val then 1#1 else 0#1 := by
  show IntOp.cmpi .sge (iota .scVector S16 32 [0] iota_S16_d0_w32_scVector (ix1 l)) (BitVec.ofNat 32 k.val) = _
  rw [iota_single_apply]
  show IntOp.cmpi .sge (BitVec.ofNat 32 l.val) (BitVec.ofNat 32 k.val) = _
  revert k l
  decide +kernel

/-- Lane `n`, at the lanes from `n` on. -/
theorem term_at (v : FVec Ideal S16 .f32) (w : ℕ → EReal) (hw : ∀ k : Fin 16, v (ix1 k) = w k.val) (n : ℕ) (hn : n < 16) (h : S16.Slices ![n] S1) (l : Fin 16) :
    select (mask (BitVec.ofNat 32 n)) (lane v n h) zeros (ix1 l) = (if n ≤ l.val then w n else 0 : EReal) := by
  rw [select_apply, mask_at ⟨n, hn⟩, lane_at v ⟨n, hn⟩, zeros_at, hw]
  show Scalar.select (if n ≤ l.val then 1#1 else 0#1) (w n) 0 = _
  split <;> rfl

/-- The running sum at lane `l` is the sum of the lanes up to `l`. -/
theorem cumsum_at (v : FVec Ideal S16 .f32) (w : ℕ → EReal) (hw : ∀ k : Fin 16, v (ix1 k) = w k.val) (l : Fin 16) :
    cumsum v (ix1 l) = (∑ k ∈ Finset.range (l.val + 1), w k : EReal) := by
  have hs : (∑ k ∈ Finset.range (l.val + 1), w k) = ∑ k ∈ Finset.range 16, if k ≤ l.val then w k else 0 := by
    rw [← Finset.sum_filter]
    refine Finset.sum_congr (Finset.ext fun k => ?_) fun _ _ => rfl
    have := l.isLt
    simp only [Finset.mem_range, Finset.mem_filter]
    omega
  have h0 : lane v 0 slices_S16_o0_S1 (ix1 l) = (if (0 : ℕ) ≤ l.val then w 0 else 0 : EReal) := by
    rw [if_pos (Nat.zero_le _)]
    exact (lane_at v 0 slices_S16_o0_S1 _).trans (hw 0)
  rw [hs]
  unfold cumsum
  simp only [add_at, Finset.sum_range_succ, Finset.sum_range_zero, zero_add]
  rw [h0, term_at v w hw 1 (by decide) slices_S16_o1_S1 l, term_at v w hw 2 (by decide) slices_S16_o2_S1 l, term_at v w hw 3 (by decide) slices_S16_o3_S1 l,
    term_at v w hw 4 (by decide) slices_S16_o4_S1 l, term_at v w hw 5 (by decide) slices_S16_o5_S1 l, term_at v w hw 6 (by decide) slices_S16_o6_S1 l,
    term_at v w hw 7 (by decide) slices_S16_o7_S1 l, term_at v w hw 8 (by decide) slices_S16_o8_S1 l, term_at v w hw 9 (by decide) slices_S16_o9_S1 l,
    term_at v w hw 10 (by decide) slices_S16_o10_S1 l, term_at v w hw 11 (by decide) slices_S16_o11_S1 l, term_at v w hw 12 (by decide) slices_S16_o12_S1 l,
    term_at v w hw 13 (by decide) slices_S16_o13_S1 l, term_at v w hw 14 (by decide) slices_S16_o14_S1 l, term_at v w hw 15 (by decide) slices_S16_o15_S1 l]

/-! ## A group -/

/-- The sum of a row's first `n` elements. -/
def upTo (g : ℕ → EReal) (n : ℕ) : EReal := ∑ k ∈ Finset.range n, g k

/-- A sum up to `n + k` is the sum up to `n` and the next `k` elements. -/
theorem upTo_add (g : ℕ → EReal) (n k : ℕ) : upTo g (n + k) = upTo g n + ∑ i ∈ Finset.range k, g (n + i) := Finset.sum_range_add _ _ _

variable (g : ℕ → EReal) (k : ℕ)

/-- The sum of vector `j` of group `k`. -/
def seg (j : ℕ) : EReal := ∑ i ∈ Finset.range 16, g (128 * k + 16 * j + i)

/-- A sum up to a vector's end is the sum up to its start and the vector's own sum. -/
theorem upTo_seg (j : ℕ) : upTo g (128 * k + 16 * (j + 1)) = upTo g (128 * k + 16 * j) + seg g k j := by
  rw [show 128 * k + 16 * (j + 1) = 128 * k + 16 * j + 16 by omega, upTo_add]
  rfl

/-- Lane `l` of vector `j` of group `k` is the row's element there. -/
theorem vecs_at (j : Fin 8) (l : Fin 16) : vecs (F := Ideal) g k j (ix1 l) = g (128 * k + 16 * j.val + l.val) := rfl

/-- A vector's last running sum is its elements' sum. -/
theorem total_at (j : Fin 8) (i : S16.Idx) : total (vecs (F := Ideal) g k j) i = seg g k j.val :=
  (lane_at _ 15 slices_S16_o15_S1 i).trans (cumsum_at _ (fun i => g (128 * k + 16 * j.val + i)) (fun l => vecs_at g k j l) 15)

/-- The vectors 0 to `j` sum to the elements between the group's start and vector `j + 1`. -/
theorem incl_at (j : Fin 8) (i : S16.Idx) : upTo g (128 * k) + incl (vecs (F := Ideal) g k) j i = upTo g (128 * k + 16 * (j.val + 1)) := by
  have hz : upTo g (128 * k) = upTo g (128 * k + 16 * 0) := rfl
  have h0 : (total (vecs (F := Ideal) g k 0) i : EReal) = seg g k 0 := total_at g k 0 i
  have h1 : (total (vecs (F := Ideal) g k 1) i : EReal) = seg g k 1 := total_at g k 1 i
  have h2 : (total (vecs (F := Ideal) g k 2) i : EReal) = seg g k 2 := total_at g k 2 i
  have h3 : (total (vecs (F := Ideal) g k 3) i : EReal) = seg g k 3 := total_at g k 3 i
  have h4 : (total (vecs (F := Ideal) g k 4) i : EReal) = seg g k 4 := total_at g k 4 i
  have h5 : (total (vecs (F := Ideal) g k 5) i : EReal) = seg g k 5 := total_at g k 5 i
  have h6 : (total (vecs (F := Ideal) g k 6) i : EReal) = seg g k 6 := total_at g k 6 i
  have h7 : (total (vecs (F := Ideal) g k 7) i : EReal) = seg g k 7 := total_at g k 7 i
  rw [hz]
  match j with
  | 0 => simp only [incl, h0]; exact (upTo_seg g k 0).symm
  | 1 => simp only [incl, add_at, h0, h1, Fin.val_one, upTo_seg]; abel
  | 2 => show _ = upTo g (128 * k + 16 * (2 + 1)); simp only [incl, add_at, h0, h1, h2]; rw [upTo_seg g k 2, upTo_seg g k 1, upTo_seg g k 0]; abel
  | 3 => show _ = upTo g (128 * k + 16 * (3 + 1)); simp only [incl, add_at, h0, h1, h2, h3]; rw [upTo_seg g k 3, upTo_seg g k 2, upTo_seg g k 1, upTo_seg g k 0]; abel
  | 4 =>
    show _ = upTo g (128 * k + 16 * (4 + 1)); simp only [incl, add_at, h0, h1, h2, h3, h4]
    rw [upTo_seg g k 4, upTo_seg g k 3, upTo_seg g k 2, upTo_seg g k 1, upTo_seg g k 0]; abel
  | 5 =>
    show _ = upTo g (128 * k + 16 * (5 + 1)); simp only [incl, add_at, h0, h1, h2, h3, h4, h5]
    rw [upTo_seg g k 5, upTo_seg g k 4, upTo_seg g k 3, upTo_seg g k 2, upTo_seg g k 1, upTo_seg g k 0]; abel
  | 6 =>
    show _ = upTo g (128 * k + 16 * (6 + 1)); simp only [incl, add_at, h0, h1, h2, h3, h4, h5, h6]
    rw [upTo_seg g k 6, upTo_seg g k 5, upTo_seg g k 4, upTo_seg g k 3, upTo_seg g k 2, upTo_seg g k 1, upTo_seg g k 0]; abel
  | 7 =>
    show _ = upTo g (128 * k + 16 * (7 + 1)); simp only [incl, add_at, h0, h1, h2, h3, h4, h5, h6, h7]
    rw [upTo_seg g k 7, upTo_seg g k 6, upTo_seg g k 5, upTo_seg g k 4, upTo_seg g k 3, upTo_seg g k 2, upTo_seg g k 1, upTo_seg g k 0]; abel

/-- The carry before group `k` is the sum of the elements before it. -/
theorem carry_at (i : S16.Idx) : carry (F := Ideal) g k i = upTo g (128 * k) := by
  induction k with
  | zero => exact (zeros_at i).trans (Finset.sum_range_zero _).symm
  | succ k ih =>
    show (carry (F := Ideal) g k i + incl (vecs (F := Ideal) g k) 7 i : EReal) = _
    rw [ih]
    exact incl_at g k 7 i

/-- What is added to vector `j` of the group is the sum of the elements before the vector. -/
theorem before_at (j : Fin 8) (i : S16.Idx) : before (carry (F := Ideal) g k) (vecs g k) j i = upTo g (128 * k + 16 * j.val) := by
  have h : ∀ j : Fin 8, (carry (F := Ideal) g k i + incl (vecs (F := Ideal) g k) j i : EReal) = upTo g (128 * k + 16 * (j.val + 1)) := fun j => by
    rw [carry_at]; exact incl_at g k j i
  match j with
  | 0 => exact carry_at g k i
  | 1 => exact h 0
  | 2 => exact h 1
  | 3 => exact h 2
  | 4 => exact h 3
  | 5 => exact h 4
  | 6 => exact h 5
  | 7 => exact h 6

/-! ## A row, and the array -/

/-- The scanned row at column `n` is the sum of the elements up to it. -/
theorem scan_eq (n : ℕ) : scan (F := Ideal) g n = upTo g (n + 1) := by
  obtain ⟨k, j, l, rfl⟩ : ∃ (k : ℕ) (j : Fin 8) (l : Fin 16), n = 128 * k + 16 * j.val + l.val :=
    ⟨n / 128, ⟨n % 128 / 16, by omega⟩, ⟨n % 16, by omega⟩, by show n = 128 * (n / 128) + 16 * (n % 128 / 16) + n % 16; omega⟩
  rw [scan_at]
  show (cumsum (vecs (F := Ideal) g k j) (ix1 l) + before (carry (F := Ideal) g k) (vecs g k) j (ix1 l) : EReal) = _
  rw [before_at, cumsum_at _ (fun i => g (128 * k + 16 * j.val + i)) (fun l => vecs_at g k j l), Nat.add_assoc (128 * k + 16 * j.val), upTo_add g (128 * k + 16 * j.val), add_comm]

/-- The array's rows scanned are its rows' prefix sums. -/
theorem scanRows_eq (x : S128x32768.Idx → EReal) (i : S128x32768.Idx) : scanRows (F := Ideal) x i = Cert.Prefix.rowSum x (i 0) ((i 1).val + 1) := by
  unfold scanRows
  rw [scan_eq]
  refine Finset.sum_congr rfl fun k _ => ?_
  unfold elts Cert.Prefix.elt
  split
  · rfl
  · exact Ideal.ofBits_zero_f32

end Cert.ScKernel.Run

end
-- ==== Proof.lean ====
/-
  THE CERTIFICATE. The TensorCore kernel's result (Proof/TcValue.lean), the SparseCore kernel's (Proof/ScLaunch.lean's run of it,
  Proof/ScValue.lean) and the reference's window sum (Proof/Prefix.lean) are all the rows' prefix sums.
-/
module

public import proofs.«01_k».proof.Defs
public import proofs.«01_k».proof.Proof.Gen.Kernel.Frame
public import proofs.«01_k».proof.Proof.TcValue
public import proofs.«01_k».proof.Proof.Gen.ScKernelIdeal
public import proofs.«01_k».proof.Proof.ScLaunch
public import proofs.«01_k».proof.Proof.ScValue
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  funext i
  rw [Cert.KernelIdeal.Value.result_eq, hagree c]
  exact Cert.Prefix.reduceWindowAdd_eq _ _ _ _ (fun _ => Ideal.ofBits_zero_f32) i

/-- The SparseCore program runs at machine floats, its argument unchanged and every semaphore at zero. -/
theorem quiescent_ScKernel : quiescent_ScKernel := fun m ρ _ =>
  (θ_run Cert.ScKernel.defs _ _).mono (fun _ h => ⟨fun c => (h.1 c).1, h.2⟩) (Cert.ScKernel.Run.run_main (F := Bits) m ρ)

/-- No operation was rewritten on the way to the extended reals: the idealized SparseCore program is the SparseCore program, -/
theorem defs_eq {F : FTy → Type} [FloatOps F] : Cert.ScKernelIdeal.defs (F := F) = Cert.ScKernel.defs (F := F) := rfl

/-- thread by thread, -/
theorem threads_eq {F : FTy → Type} [FloatOps F] : Cert.ScKernelIdeal.threads (F := F) = Cert.ScKernel.threads (F := F) := rfl

/-- so that it runs as that one does. -/
theorem run_ScKernelIdeal (m : (ℓ : Loc Cert.ScKernelIdeal.nD Cert.ScKernelIdeal.τ Cert.ScKernelIdeal.sig) → Buf (Elt Ideal) ℓ) (ρ : Dev Cert.ScKernelIdeal.nD → PrngReg) :
    θ_run (Cert.ScKernelIdeal.defs (F := Ideal)) (Cert.ScKernelIdeal.threads (F := Ideal)) ⟨m, fun _ => 0, ρ⟩ (Cert.ScKernel.Run.QC (F := Ideal) m) := by
  rw [defs_eq, threads_eq]
  exact Cert.ScKernel.Run.run_main (F := Ideal) m ρ

/-- The idealized SparseCore program runs, its argument unchanged and every semaphore at zero. -/
theorem quiescent_ScKernelIdeal : quiescent_ScKernelIdeal := fun m ρ _ =>
  (θ_run Cert.ScKernelIdeal.defs _ _).mono (fun _ h => ⟨fun c => (h.1 c).1, h.2⟩) (run_ScKernelIdeal m ρ)

/-- The idealized SparseCore program's result is the reference's. -/
theorem algebraic_ScKernelIdeal_ReferenceIdeal : algebraic_ScKernelIdeal_ReferenceIdeal := by
  intro m ρ m' ρ' _ hagree
  refine ⟨_, (θ_run Cert.ScKernelIdeal.defs _ _).mono (fun _ h c => ⟨(h.1 c).2, (h.1 c).1⟩) (run_ScKernelIdeal m ρ), ?_⟩
  refine (θ_run Cert.ReferenceIdeal.defs _ _).mono (fun _ h c => ⟨?_, (h c).2⟩) (Cert.ReferenceIdeal.Value.run (F := Ideal) m' ρ')
  rw [(h c).1]
  funext i
  refine Eq.trans ?_ (Cert.ScKernel.Run.scanRows_eq _ i).symm
  rw [hagree c]
  exact Cert.Prefix.reduceWindowAdd_eq _ _ _ _ (fun _ => Ideal.ofBits_zero_f32) i

theorem claim : Cert.Claim := ⟨Cert.Kernel.Gen.facts, Cert.KernelIdeal.Gen.facts, Cert.ReferenceIdeal.Gen.facts, Cert.ScKernel.Gen.facts, Cert.ScKernelIdeal.Gen.facts,
  fun m ρ _ => Cert.Kernel.Gen.frame m ρ, fun m ρ _ => Cert.KernelIdeal.Gen.frame m ρ, quiescent_ReferenceIdeal, quiescent_ScKernel, quiescent_ScKernelIdeal,
  (trivial : preserves_Kernel_KernelIdeal), algebraic_KernelIdeal_ReferenceIdeal, (trivial : preserves_ScKernel_ScKernelIdeal), algebraic_ScKernelIdeal_ReferenceIdeal⟩

end Cert.Proof

end
